-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)
      ∧ m' ((c.tc : Thread Cert.Reference.nD Cert.Reference.τ).loc Cert.Reference.main_arg5) = m ((c.tc : Thread Cert.Kernel.nD Cert.Kernel.τ).loc Cert.Kernel.main_arg5)
      ∧ m' ((c.tc : Thread Cert.Reference.nD Cert.Reference.τ).loc Cert.Reference.main_arg6) = m ((c.tc : Thread Cert.Kernel.nD Cert.Kernel.τ).loc Cert.Kernel.main_arg6)) →
    ∃ (v0 : (c : Dev Cert.Kernel.nD) → Buf (Elt Bits) ((c.tc : Thread Cert.Kernel.nD Cert.Kernel.τ).loc Cert.Kernel.main_v42_0)) (v1 : (c : Dev Cert.Kernel.nD) → Buf (Elt Bits) ((c.tc : Thread Cert.Kernel.nD Cert.Kernel.τ).loc Cert.Kernel.main_v42_1)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v42_0) = v0 c
          ∧ r.2.mem ((c.tc : Thread Cert.Kernel.nD Cert.Kernel.τ).loc Cert.Kernel.main_v42_1) = v1 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5)
          ∧ r.2.mem ((c.tc : Thread Cert.Kernel.nD Cert.Kernel.τ).loc Cert.Kernel.main_arg6) = m ((c.tc : Thread Cert.Kernel.nD Cert.Kernel.τ).loc Cert.Kernel.main_arg6))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v42_0) = v0 c
          ∧ r.2.mem ((c.tc : Thread Cert.Reference.nD Cert.Reference.τ).loc Cert.Reference.main_v42_1) = v1 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4)
          ∧ r.2.mem ((c.tc : Thread Cert.Reference.nD Cert.Reference.τ).loc Cert.Reference.main_arg5) = m' ((c.tc : Thread Cert.Reference.nD Cert.Reference.τ).loc Cert.Reference.main_arg5)
          ∧ r.2.mem ((c.tc : Thread Cert.Reference.nD Cert.Reference.τ).loc Cert.Reference.main_arg6) = m' ((c.tc : Thread Cert.Reference.nD Cert.Reference.τ).loc Cert.Reference.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_Reference (hReference := hReference)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ bitexact_Kernel_Reference (hKernel := hKernel) (hReference := hReference)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S32x1 : Shape := ⟨2, ![32, 1]⟩
abbrev S147456x256 : Shape := ⟨2, ![147456, 256]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32 : Shape := ⟨1, ![32]⟩
abbrev S_ : Shape := ⟨0, ![]⟩
abbrev S288 : Shape := ⟨1, ![288]⟩
abbrev S1x32 : Shape := ⟨2, ![1, 32]⟩
abbrev S288x1 : Shape := ⟨2, ![288, 1]⟩
abbrev S288x32 : Shape := ⟨2, ![288, 32]⟩
abbrev S32x1x2048 : Shape := ⟨3, ![32, 1, 2048]⟩
abbrev S32x1x1024 : Shape := ⟨3, ![32, 1, 1024]⟩
abbrev S512x256 : Shape := ⟨2, ![512, 256]⟩
abbrev S1x1024x2048 : Shape := ⟨3, ![1, 1024, 2048]⟩
abbrev S1 : Shape := ⟨1, ![1]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S256x1 : Shape := ⟨2, ![256, 1]⟩
abbrev S256x256 : Shape := ⟨2, ![256, 256]⟩
abbrev S256x1024 : Shape := ⟨2, ![256, 1024]⟩
abbrev S1x2048 : Shape := ⟨2, ![1, 2048]⟩
abbrev S256x2048 : Shape := ⟨2, ![256, 2048]⟩
abbrev S1x1024 : Shape := ⟨2, ![1, 1024]⟩
abbrev S256x512 : Shape := ⟨2, ![256, 512]⟩

abbrev nBuf : Space → Nat
  | .hbm => 85
  | .vmem => 18
  | .smem => 2
  | _ => 0

abbrev bufTy : (tb : Table) → Fin (tcTables nBuf tb) → BufTy
  | .hbm, ⟨0, _⟩ => ⟨S32x1, .f32⟩
  | .hbm, ⟨1, _⟩ => ⟨S147456x256, .i32⟩
  | .hbm, ⟨2, _⟩ => ⟨S147456x256, .i32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S32, .f32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S_, .i32⟩
  | .hbm, ⟨16, _⟩ => ⟨S_, .i32⟩
  | .hbm, ⟨17, _⟩ => ⟨S32, .i32⟩
  | .hbm, ⟨18, _⟩ => ⟨S32, .i32⟩
  | .hbm, ⟨19, _⟩ => ⟨S32, .i32⟩
  | .hbm, ⟨20, _⟩ => ⟨S_, .i32⟩
  | .hbm, ⟨21, _⟩ => ⟨S32, .i32⟩
  | .hbm, ⟨22, _⟩ => ⟨S32, .i1⟩
  | .hbm, ⟨23, _⟩ => ⟨S32, .i32⟩
  | .hbm, ⟨24, _⟩ => ⟨S32, .i32⟩
  | .hbm, ⟨25, _⟩ => ⟨S_, .i32⟩
  | .hbm, ⟨26, _⟩ => ⟨S32, .i32⟩
  | .hbm, ⟨27, _⟩ => ⟨S32, .i1⟩
  | .hbm, ⟨28, _⟩ => ⟨S32, .i1⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S32, .i32⟩
  | .hbm, ⟨33, _⟩ => ⟨S_, .i32⟩
  | .hbm, ⟨34, _⟩ => ⟨S32, .i32⟩
  | .hbm, ⟨35, _⟩ => ⟨S32, .i32⟩
  | .hbm, ⟨36, _⟩ => ⟨S_, .i32⟩
  | .hbm, ⟨37, _⟩ => ⟨S_, .i32⟩
  | .hbm, ⟨38, _⟩ => ⟨S32, .i32⟩
  | .hbm, ⟨39, _⟩ => ⟨S32, .i32⟩
  | .hbm, ⟨40, _⟩ => ⟨S288, .i32⟩
  | .hbm, ⟨41, _⟩ => ⟨S_, .i32⟩
  | .hbm, ⟨42, _⟩ => ⟨S288, .i32⟩
  | .hbm, ⟨43, _⟩ => ⟨S288, .i32⟩
  | .hbm, ⟨44, _⟩ => ⟨S1x32, .i32⟩
  | .hbm, ⟨45, _⟩ => ⟨S288x1, .i32⟩
  | .hbm, ⟨46, _⟩ => ⟨S288x32, .i32⟩
  | .hbm, ⟨47, _⟩ => ⟨S288x32, .i32⟩
  | .hbm, ⟨48, _⟩ => ⟨S288x32, .i1⟩
  | .hbm, ⟨49, _⟩ => ⟨S288x32, .i32⟩
  | .hbm, ⟨50, _⟩ => ⟨S_, .i32⟩
  | .hbm, ⟨51, _⟩ => ⟨S288, .i32⟩
  | .hbm, ⟨52, _⟩ => ⟨S_, .i32⟩
  | .hbm, ⟨53, _⟩ => ⟨S288, .i32⟩
  | .hbm, ⟨54, _⟩ => ⟨S_, .i32⟩
  | .hbm, ⟨55, _⟩ => ⟨S288, .i32⟩
  | .hbm, ⟨56, _⟩ => ⟨S288, .i1⟩
  | .hbm, ⟨57, _⟩ => ⟨S_, .i32⟩
  | .hbm, ⟨58, _⟩ => ⟨S288, .i32⟩
  | .hbm, ⟨59, _⟩ => ⟨S288, .i32⟩
  | .hbm, ⟨60, _⟩ => ⟨S288, .i32⟩
  | .hbm, ⟨61, _⟩ => ⟨S288x1, .i32⟩
  | .hbm, ⟨62, _⟩ => ⟨S288, .i32⟩
  | .hbm, ⟨63, _⟩ => ⟨S_, .i32⟩
  | .hbm, ⟨64, _⟩ => ⟨S288, .i32⟩
  | .hbm, ⟨65, _⟩ => ⟨S288, .i1⟩
  | .hbm, ⟨66, _⟩ => ⟨S_, .i32⟩
  | .hbm, ⟨67, _⟩ => ⟨S288, .i32⟩
  | .hbm, ⟨68, _⟩ => ⟨S288, .i32⟩
  | .hbm, ⟨69, _⟩ => ⟨S288, .i32⟩
  | .hbm, ⟨70, _⟩ => ⟨S288x1, .i32⟩
  | .hbm, ⟨71, _⟩ => ⟨S288, .i32⟩
  | .hbm, ⟨72, _⟩ => ⟨S288, .i32⟩
  | .hbm, ⟨73, _⟩ => ⟨S288, .i32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S288, .i32⟩
  | .hbm, ⟨78, _⟩ => ⟨S288, .i32⟩
  | .hbm, ⟨79, _⟩ => ⟨S_, .i32⟩
  | .hbm, ⟨80, _⟩ => ⟨S288, .i32⟩
  | .hbm, ⟨81, _⟩ => ⟨S32x1x2048, .f32⟩
  | .hbm, ⟨82, _⟩ => ⟨S32x1x1024, .f32⟩
  | .hbm, ⟨83, _⟩ => ⟨S147456x256, .i32⟩
  | .hbm, ⟨84, _⟩ => ⟨S147456x256, .i32⟩
  | .local _ .vmem, ⟨0, _⟩ => ⟨S512x256, .i32⟩
  | .local _ .vmem, ⟨1, _⟩ => ⟨S512x256, .i32⟩
  | .local _ .vmem, ⟨2, _⟩ => ⟨S512x256, .i32⟩
  | .local _ .vmem, ⟨3, _⟩ => ⟨S512x256, .i32⟩
  | .local _ .vmem, ⟨4, _⟩ => ⟨S1x1024x2048, .f32⟩
  | .local _ .vmem, ⟨5, _⟩ => ⟨S1x1024x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1024x1024, .f32⟩
  | .local _ .vmem, ⟨9, _⟩ => ⟨S1x1024x1024, .f32⟩
  | .local _ .vmem, ⟨10, _⟩ => ⟨S1x1x1024, .f32⟩
  | .local _ .vmem, ⟨11, _⟩ => ⟨S1x1x1024, .f32⟩
  | .local _ .vmem, ⟨12, _⟩ => ⟨S512x256, .i32⟩
  | .local _ .vmem, ⟨13, _⟩ => ⟨S512x256, .i32⟩
  | .local _ .vmem, ⟨14, _⟩ => ⟨S512x256, .i32⟩
  | .local _ .vmem, ⟨15, _⟩ => ⟨S512x256, .i32⟩
  | .local _ .vmem, ⟨16, _⟩ => ⟨S1024x2048, .bf16⟩
  | .local _ .vmem, ⟨17, _⟩ => ⟨S1024x1024, .bf16⟩
  | .local _ .smem, ⟨0, _⟩ => ⟨S288, .i32⟩
  | .local _ .smem, ⟨1, _⟩ => ⟨S288, .i32⟩
  | _, _ => ⟨S32x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v6 : Ref sig .tc := ⟨.hbm, 32, rfl⟩
abbrev main_c_2 : Ref sig .tc := ⟨.hbm, 33, rfl⟩
abbrev main_v7 : Ref sig .tc := ⟨.hbm, 34, rfl⟩
abbrev main_v8 : Ref sig .tc := ⟨.hbm, 35, rfl⟩
abbrev main_call1_call0_c : Ref sig .tc := ⟨.hbm, 36, rfl⟩
abbrev main_call1_call0_v0 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_c_3 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_c_4 : Ref sig .tc := ⟨.hbm, 50, rfl⟩
abbrev main_v20 : Ref sig .tc := ⟨.hbm, 51, rfl⟩
abbrev main_c_5 : Ref sig .tc := ⟨.hbm, 52, rfl⟩
abbrev main_v21 : Ref sig .tc := ⟨.hbm, 53, rfl⟩
abbrev main_c_6 : Ref sig .tc := ⟨.hbm, 54, rfl⟩
abbrev main_v23 : Ref sig .tc := ⟨.hbm, 55, rfl⟩
abbrev main_v24 : Ref sig .tc := ⟨.hbm, 56, rfl⟩
abbrev main_c_7 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_c_8 : Ref sig .tc := ⟨.hbm, 63, rfl⟩
abbrev main_v30 : Ref sig .tc := ⟨.hbm, 64, rfl⟩
abbrev main_v31 : Ref sig .tc := ⟨.hbm, 65, rfl⟩
abbrev main_c_9 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_c_10 : Ref sig .tc := ⟨.hbm, 74, rfl⟩
abbrev main_c_11 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_v40 : Ref sig .tc := ⟨.hbm, 81, rfl⟩
abbrev main_v41 : Ref sig .tc := ⟨.hbm, 82, rfl⟩
abbrev main_v42_0 : Ref sig .tc := ⟨.hbm, 83, rfl⟩
abbrev main_v42_1 : Ref sig .tc := ⟨.hbm, 84, rfl⟩
abbrev main_v22 : Ref sig .tc := ⟨.smem, 0, rfl⟩
abbrev main_v39 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [BitOps F]

abbrev grid0 : Pipeline.Grid := ⟨1, ![288], ![false]⟩

abbrev pre0 : Pipeline.Prefetch sig := ⟨2, ![main_v22.idx, main_v39.idx], fun | 0 => main_v22.names | 1 => main_v39.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (v1 : BitVec 32) : BitVec 1 :=
  let c256_i32 : BitVec 32 := 256#32
  let v13 : BitVec 1 := Scalar.cmpi .sgt v1 c256_i32
  let v14 : BitVec 32 := Scalar.extui v13
  let c0_i32_2 : BitVec 32 := 0#32
  let v15 : BitVec 1 := Scalar.cmpi .ne v14 c0_i32_2
  v15

def k0_cond3 (v1 : BitVec 32) : BitVec 1 :=
  let c0_i32_3 : BitVec 32 := 0#32
  let v16 : BitVec 1 := Scalar.cmpi .sgt v1 c0_i32_3
  let c256_i32_4 : BitVec 32 := 256#32
  let v17 : BitVec 1 := Scalar.cmpi .sle v1 c256_i32_4
  let v18 : BitVec 1 := Scalar.andi v16 v17
  let v19 : BitVec 32 := Scalar.extui v18
  let c0_i32_5 : BitVec 32 := 0#32
  let v20 : BitVec 1 := Scalar.cmpi .ne v19 c0_i32_5
  v20

def k0_cond4 (v1 : BitVec 32) : BitVec 1 :=
  let c0_i32_6 : BitVec 32 := 0#32
  let v21 : BitVec 1 := Scalar.cmpi .sle v1 c0_i32_6
  let v22 : BitVec 32 := Scalar.extui v21
  let c0_i32_7 : BitVec 32 := 0#32
  let v23 : BitVec 1 := Scalar.cmpi .ne v22 c0_i32_7
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference.lean ====
abbrev S32x1 : Shape := ⟨2, ![32, 1]⟩
abbrev S147456x256 : Shape := ⟨2, ![147456, 256]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32 : Shape := ⟨1, ![32]⟩
abbrev S_ : Shape := ⟨0, ![]⟩
abbrev S288 : Shape := ⟨1, ![288]⟩
abbrev S1x32 : Shape := ⟨2, ![1, 32]⟩
abbrev S288x1 : Shape := ⟨2, ![288, 1]⟩
abbrev S288x32 : Shape := ⟨2, ![288, 32]⟩
abbrev S32x1x2048 : Shape := ⟨3, ![32, 1, 2048]⟩
abbrev S32x1x1024 : Shape := ⟨3, ![32, 1, 1024]⟩
abbrev S1 : Shape := ⟨1, ![1]⟩
abbrev S256x256 : Shape := ⟨2, ![256, 256]⟩
abbrev S256x1024 : Shape := ⟨2, ![256, 1024]⟩
abbrev S256x1 : Shape := ⟨2, ![256, 1]⟩
abbrev S1x1x2048 : Shape := ⟨3, ![1, 1, 2048]⟩
abbrev S1x2048 : Shape := ⟨2, ![1, 2048]⟩
abbrev S1x1024x2048 : Shape := ⟨3, ![1, 1024, 2048]⟩
abbrev S1024x2048 : Shape := ⟨2, ![1024, 2048]⟩
abbrev S256x2048 : Shape := ⟨2, ![256, 2048]⟩
abbrev S1x1x1024 : Shape := ⟨3, ![1, 1, 1024]⟩
abbrev S1x1024 : Shape := ⟨2, ![1, 1024]⟩
abbrev S1x1024x1024 : Shape := ⟨3, ![1, 1024, 1024]⟩
abbrev S1024x1024 : Shape := ⟨2, ![1024, 1024]⟩
abbrev S256x512 : Shape := ⟨2, ![256, 512]⟩

abbrev nBuf : Space → Nat
  | .hbm => 87
  | .vmem => 8
  | .smem => 2
  | _ => 0

abbrev bufTy : (tb : Table) → Fin (tcTables nBuf tb) → BufTy
  | .hbm, ⟨0, _⟩ => ⟨S32x1, .f32⟩
  | .hbm, ⟨1, _⟩ => ⟨S147456x256, .i32⟩
  | .hbm, ⟨2, _⟩ => ⟨S147456x256, .i32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S32, .f32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S_, .i32⟩
  | .hbm, ⟨16, _⟩ => ⟨S_, .i32⟩
  | .hbm, ⟨17, _⟩ => ⟨S32, .i32⟩
  | .hbm, ⟨18, _⟩ => ⟨S32, .i32⟩
  | .hbm, ⟨19, _⟩ => ⟨S32, .i32⟩
  | .hbm, ⟨20, _⟩ => ⟨S_, .i32⟩
  | .hbm, ⟨21, _⟩ => ⟨S32, .i32⟩
  | .hbm, ⟨22, _⟩ => ⟨S32, .i1⟩
  | .hbm, ⟨23, _⟩ => ⟨S32, .i32⟩
  | .hbm, ⟨24, _⟩ => ⟨S32, .i32⟩
  | .hbm, ⟨25, _⟩ => ⟨S_, .i32⟩
  | .hbm, ⟨26, _⟩ => ⟨S32, .i32⟩
  | .hbm, ⟨27, _⟩ => ⟨S32, .i1⟩
  | .hbm, ⟨28, _⟩ => ⟨S32, .i1⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S32, .i32⟩
  | .hbm, ⟨33, _⟩ => ⟨S_, .i32⟩
  | .hbm, ⟨34, _⟩ => ⟨S32, .i32⟩
  | .hbm, ⟨35, _⟩ => ⟨S32, .i32⟩
  | .hbm, ⟨36, _⟩ => ⟨S_, .i32⟩
  | .hbm, ⟨37, _⟩ => ⟨S_, .i32⟩
  | .hbm, ⟨38, _⟩ => ⟨S32, .i32⟩
  | .hbm, ⟨39, _⟩ => ⟨S288, .i32⟩
  | .hbm, ⟨40, _⟩ => ⟨S_, .i32⟩
  | .hbm, ⟨41, _⟩ => ⟨S288, .i32⟩
  | .hbm, ⟨42, _⟩ => ⟨S288, .i32⟩
  | .hbm, ⟨43, _⟩ => ⟨S1x32, .i32⟩
  | .hbm, ⟨44, _⟩ => ⟨S288x1, .i32⟩
  | .hbm, ⟨45, _⟩ => ⟨S288x32, .i32⟩
  | .hbm, ⟨46, _⟩ => ⟨S288x32, .i32⟩
  | .hbm, ⟨47, _⟩ => ⟨S288x32, .i1⟩
  | .hbm, ⟨48, _⟩ => ⟨S288x32, .i32⟩
  | .hbm, ⟨49, _⟩ => ⟨S_, .i32⟩
  | .hbm, ⟨50, _⟩ => ⟨S288, .i32⟩
  | .hbm, ⟨51, _⟩ => ⟨S_, .i32⟩
  | .hbm, ⟨52, _⟩ => ⟨S288, .i32⟩
  | .hbm, ⟨53, _⟩ => ⟨S288, .i32⟩
  | .hbm, ⟨54, _⟩ => ⟨S_, .i32⟩
  | .hbm, ⟨55, _⟩ => ⟨S288, .i32⟩
  | .hbm, ⟨56, _⟩ => ⟨S288, .i1⟩
  | .hbm, ⟨57, _⟩ => ⟨S_, .i32⟩
  | .hbm, ⟨58, _⟩ => ⟨S288, .i32⟩
  | .hbm, ⟨59, _⟩ => ⟨S288, .i32⟩
  | .hbm, ⟨60, _⟩ => ⟨S288, .i32⟩
  | .hbm, ⟨61, _⟩ => ⟨S288x1, .i32⟩
  | .hbm, ⟨62, _⟩ => ⟨S288, .i32⟩
  | .hbm, ⟨63, _⟩ => ⟨S32, .i32⟩
  | .hbm, ⟨64, _⟩ => ⟨S_, .i32⟩
  | .hbm, ⟨65, _⟩ => ⟨S288, .i32⟩
  | .hbm, ⟨66, _⟩ => ⟨S288, .i1⟩
  | .hbm, ⟨67, _⟩ => ⟨S_, .i32⟩
  | .hbm, ⟨68, _⟩ => ⟨S288, .i32⟩
  | .hbm, ⟨69, _⟩ => ⟨S288, .i32⟩
  | .hbm, ⟨70, _⟩ => ⟨S288, .i32⟩
  | .hbm, ⟨71, _⟩ => ⟨S288x1, .i32⟩
  | .hbm, ⟨72, _⟩ => ⟨S288, .i32⟩
  | .hbm, ⟨73, _⟩ => ⟨S288, .i32⟩
  | .hbm, ⟨74, _⟩ => ⟨S288, .i32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S288, .i32⟩
  | .hbm, ⟨79, _⟩ => ⟨S288, .i32⟩
  | .hbm, ⟨80, _⟩ => ⟨S_, .i32⟩
  | .hbm, ⟨81, _⟩ => ⟨S288, .i32⟩
  | .hbm, ⟨82, _⟩ => ⟨S288, .i32⟩
  | .hbm, ⟨83, _⟩ => ⟨S32x1x2048, .f32⟩
  | .hbm, ⟨84, _⟩ => ⟨S32x1x1024, .f32⟩
  | .hbm, ⟨85, _⟩ => ⟨S147456x256, .i32⟩
  | .hbm, ⟨86, _⟩ => ⟨S147456x256, .i32⟩
  | .local _ .vmem, ⟨0, _⟩ => ⟨S147456x256, .i32⟩
  | .local _ .vmem, ⟨1, _⟩ => ⟨S147456x256, .i32⟩
  | .local _ .vmem, ⟨2, _⟩ => ⟨S32x1024x2048, .f32⟩
  | .local _ .vmem, ⟨3, _⟩ => ⟨S32x1x2048, .f32⟩
  | .local _ .vmem, ⟨4, _⟩ => ⟨S32x1024x1024, .f32⟩
  | .local _ .vmem, ⟨5, _⟩ => ⟨S32x1x1024, .f32⟩
  | .local _ .vmem, ⟨6, _⟩ => ⟨S147456x256, .i32⟩
  | .local _ .vmem, ⟨7, _⟩ => ⟨S147456x256, .i32⟩
  | .local _ .smem, ⟨0, _⟩ => ⟨S288, .i32⟩
  | .local _ .smem, ⟨1, _⟩ => ⟨S288, .i32⟩
  | _, _ => ⟨S32x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v6 : Ref sig .tc := ⟨.hbm, 32, rfl⟩
abbrev main_c_2 : Ref sig .tc := ⟨.hbm, 33, rfl⟩
abbrev main_v7 : Ref sig .tc := ⟨.hbm, 34, rfl⟩
abbrev main_v8 : Ref sig .tc := ⟨.hbm, 35, rfl⟩
abbrev main_call1_call0_c : Ref sig .tc := ⟨.hbm, 36, rfl⟩
abbrev main_call1_call0_v0 : Ref sig .tc := ⟨.hbm, 37, rfl⟩
abbrev main_v9 : Ref sig .tc := ⟨.hbm, 38, rfl⟩
abbrev main_v10 : Ref sig .tc := ⟨.hbm, 39, rfl⟩
abbrev main_c_3 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_c_4 : Ref sig .tc := ⟨.hbm, 49, rfl⟩
abbrev main_v19 : Ref sig .tc := ⟨.hbm, 50, rfl⟩
abbrev main_c_5 : Ref sig .tc := ⟨.hbm, 51, rfl⟩
abbrev main_v20 : Ref sig .tc := ⟨.hbm, 52, rfl⟩
abbrev main_v21 : Ref sig .tc := ⟨.hbm, 53, rfl⟩
abbrev main_c_6 : Ref sig .tc := ⟨.hbm, 54, rfl⟩
abbrev main_v22 : Ref sig .tc := ⟨.hbm, 55, rfl⟩
abbrev main_v23 : Ref sig .tc := ⟨.hbm, 56, rfl⟩
abbrev main_c_7 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_c_8 : Ref sig .tc := ⟨.hbm, 64, rfl⟩
abbrev main_v30 : Ref sig .tc := ⟨.hbm, 65, rfl⟩
abbrev main_v31 : Ref sig .tc := ⟨.hbm, 66, rfl⟩
abbrev main_c_9 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_c_10 : Ref sig .tc := ⟨.hbm, 75, rfl⟩
abbrev main_c_11 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42_0 : Ref sig .tc := ⟨.hbm, 85, rfl⟩
abbrev main_v42_1 : Ref sig .tc := ⟨.hbm, 86, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [BitOps F]

abbrev grid0 : Pipeline.Grid := .none

@[reducible] def k0_t1_loop : Scf.Loop 32 :=
  let c0_i32 : BitVec 32 := 0#32
  let c288_i32 : BitVec 32 := 288#32
  let v0 : BitVec 32 := Scalar.addi c0_i32 c288_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg10 : BitVec 32 := Scf.iv c0_i32 c1_i32 k0_t1
  let v1 : Index := Scalar.indexCast arg10
  ![v1.toNat]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c512_i32 : BitVec 32 := 512#32
  let v5 : BitVec 32 := Scalar.muli arg10 c512_i32
  let c0_i32_1 : BitVec 32 := 0#32
  let v6 : BitVec 32 := Scalar.addi v5 c0_i32_1
  let v7 : Index := Scalar.indexCast v6
  let c0 : Index := 0#32
  ![v7.toNat, 0]
def k0_off3 (v2 : BitVec 32) : Fin 3 → Nat :=
  let v25 : Index := Scalar.indexCast v2
  let c0_4 : Index := 0#32
  let c0_5 : Index := 0#32
  ![v25.toNat, 0, 0]

def k0_off4 (v2 : BitVec 32) : Fin 3 → Nat :=
  let v28 : Index := Scalar.indexCast v2
  let c0_6 : Index := 0#32
  let c0_7 : Index := 0#32
  ![v28.toNat, 0, 0]
def k0_off5 (v2 : BitVec 32) : Fin 3 → Nat :=
  let v56 : Index := Scalar.indexCast v2
  let c0_17 : Index := 0#32
  let c0_18 : Index := 0#32
  ![v56.toNat, 0, 0]
def k0_off6 (v2 : BitVec 32) : Fin 3 → Nat :=
  let v60 : Index := Scalar.indexCast v2
  let c0_19 : Index := 0#32
  let c0_20 : Index := 0#32
  ![v60.toNat, 0, 0]

def k0_chk1 (v2 : BitVec 32) : Prop :=
  (∀ a, (k0_off3 v2) a + S1x1x2048.size a ≤ S32x1x2048.size a) ∧
  (∀ a, (k0_off4 v2) a + S1x1024x2048.size a ≤ S32x1024x2048.size a) ∧
  (∀ a, (k0_off5 v2) a + S1x1x1024.size a ≤ S32x1x1024.size a) ∧
  (∀ a, (k0_off6 v2) a + S1x1024x1024.size a ≤ S32x1024x1024.size a)
theorem k0_off3_inb : ∀ (v2 : BitVec 32) (k0_hw1 : k0_chk1 v2), ∀ a, (k0_off3 v2) a + S1x1x2048.size a ≤ S32x1x2048.size a := fun v2 k0_hw1 => k0_hw1.1
theorem k0_off4_inb : ∀ (v2 : BitVec 32) (k0_hw1 : k0_chk1 v2), ∀ a, (k0_off4 v2) a + S1x1024x2048.size a ≤ S32x1024x2048.size a := fun v2 k0_hw1 => k0_hw1.2.1
theorem k0_off5_inb : ∀ (v2 : BitVec 32) (k0_hw1 : k0_chk1 v2), ∀ a, (k0_off5 v2) a + S1x1x1024.size a ≤ S32x1x1024.size a := fun v2 k0_hw1 => k0_hw1.2.2.1
theorem k0_off6_inb : ∀ (v2 : BitVec 32) (k0_hw1 : k0_chk1 v2), ∀ a, (k0_off6 v2) a + S1x1024x1024.size a ≤ S32x1024x1024.size a := fun v2 k0_hw1 => k0_hw1.2.2.2

def k0_off7 (k0_t1 : Fin k0_t1_loop.trips) (c0_i32_1 : BitVec 32) : Fin 2 → Nat :=
  let c0_i32 : BitVec 32 := 0#32
  let c1_i32 : BitVec 32 := 1#32
  let arg10 : BitVec 32 := Scf.iv c0_i32 c1_i32 k0_t1
  let c512_i32 : BitVec 32 := 512#32
  let v5 : BitVec 32 := Scalar.muli arg10 c512_i32
  let v6 : BitVec 32 := Scalar.addi v5 c0_i32_1
  let v74 : Index := Scalar.indexCast v6
  let c0_24 : Index := 0#32
  ![v74.toNat, 0]
abbrev stage0_0 : Fin 1 → Memref sig .tc .smem S288 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S288 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S147456x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S147456x256 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x1024x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S147456x256 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S147456x256 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Kernel2.lean ====
abbrev S32768x1024 : Shape := ⟨2, ![32768, 1024]⟩
abbrev S4x32768x256 : Shape := ⟨3, ![4, 32768, 256]⟩
abbrev S4x32768 : Shape := ⟨2, ![4, 32768]⟩
abbrev S16x6144 : Shape := ⟨2, ![16, 6144]⟩
abbrev S1024 : Shape := ⟨1, ![1024]⟩
abbrev S16x1024 : Shape := ⟨2, ![16, 1024]⟩
abbrev S16x1x1024 : Shape := ⟨3, ![16, 1, 1024]⟩
abbrev S32768x4 : Shape := ⟨2, ![32768, 4]⟩
abbrev S1x1024 : Shape := ⟨2, ![1, 1024]⟩
abbrev S65536x1024 : Shape := ⟨2, ![65536, 1024]⟩
abbrev S256x1024 : Shape := ⟨2, ![256, 1024]⟩
abbrev S4x256x256 : Shape := ⟨3, ![4, 256, 256]⟩
abbrev S256x4 : Shape := ⟨2, ![256, 4]⟩
abbrev S1x1x1024 : Shape := ⟨3, ![1, 1, 1024]⟩
abbrev S256x1 : Shape := ⟨2, ![256, 1]⟩
abbrev S1x256x256 : Shape := ⟨3, ![1, 256, 256]⟩
abbrev S256x256 : Shape := ⟨2, ![256, 256]⟩
abbrev S256 : Shape := ⟨1, ![256]⟩

abbrev nBuf : Space → Nat
  | .hbm => 18
  | .vmem => 26
  | .smem => 0
  | _ => 0

abbrev bufTy : (tb : Table) → Fin (tcTables nBuf tb) → BufTy
  | .hbm, ⟨0, _⟩ => ⟨S32768x1024, .f32⟩
  | .hbm, ⟨1, _⟩ => ⟨S4x32768x256, .i32⟩
  | .hbm, ⟨2, _⟩ => ⟨S4x32768x256, .i32⟩
  | .hbm, ⟨3, _⟩ => ⟨S4x32768, .f32⟩
  | .hbm, ⟨4, _⟩ => ⟨S32768x1024, .f32⟩
  | .hbm, ⟨5, _⟩ => ⟨S4x32768x256, .i32⟩
  | .hbm, ⟨6, _⟩ => ⟨S4x32768x256, .i32⟩
  | .hbm, ⟨7, _⟩ => ⟨S4x32768, .f32⟩
  | .hbm, ⟨8, _⟩ => ⟨S16x6144, .f32⟩
  | .hbm, ⟨9, _⟩ => ⟨S1024, .f32⟩
  | .hbm, ⟨10, _⟩ => ⟨S16x1024, .f32⟩
  | .hbm, ⟨11, _⟩ => ⟨S16x1x1024, .f32⟩
  | .hbm, ⟨12, _⟩ => ⟨S32768x4, .f32⟩
  | .hbm, ⟨13, _⟩ => ⟨S1x1024, .f32⟩
  | .hbm, ⟨14, _⟩ => ⟨S65536x1024, .f32⟩
  | .hbm, ⟨15, _⟩ => ⟨S32768x4, .f32⟩
  | .hbm, ⟨16, _⟩ => ⟨S1x1024, .f32⟩
  | .hbm, ⟨17, _⟩ => ⟨S65536x1024, .f32⟩
  | .local _ .vmem, ⟨0, _⟩ => ⟨S256x1024, .f32⟩
  | .local _ .vmem, ⟨1, _⟩ => ⟨S256x1024, .f32⟩
  | .local _ .vmem, ⟨2, _⟩ => ⟨S4x256x256, .i32⟩
  | .local _ .vmem, ⟨3, _⟩ => ⟨S4x256x256, .i32⟩
  | .local _ .vmem, ⟨4, _⟩ => ⟨S4x256x256, .i32⟩
  | .local _ .vmem, ⟨5, _⟩ => ⟨S4x256x256, .i32⟩
  | .local _ .vmem, ⟨6, _⟩ => ⟨S256x4, .f32⟩
  | .local _ .vmem, ⟨7, _⟩ => ⟨S256x4, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S4x256x256, .i32⟩
  | .local _ .vmem, ⟨16, _⟩ => ⟨S4x256x256, .i32⟩
  | .local _ .vmem, ⟨17, _⟩ => ⟨S4x256x256, .i32⟩
  | .local _ .vmem, ⟨18, _⟩ => ⟨S4x256x256, .i32⟩
  | .local _ .vmem, ⟨19, _⟩ => ⟨S256x4, .f32⟩
  | .local _ .vmem, ⟨20, _⟩ => ⟨S256x4, .f32⟩
  | .local _ .vmem, ⟨21, _⟩ => ⟨S1x1x1024, .f32⟩
  | .local _ .vmem, ⟨22, _⟩ => ⟨S1x1x1024, .f32⟩
  | .local _ .vmem, ⟨23, _⟩ => ⟨S1x1024, .f32⟩
  | .local _ .vmem, ⟨24, _⟩ => ⟨S256x1024, .f32⟩
  | .local _ .vmem, ⟨25, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem6_0 : DmaSem sig := 24
abbrev cc1_sem6_1 : DmaSem sig := 25

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c0_i32_7 : BitVec 32 := 0#32
  ![v17.toNat, c0_i32_5.toNat, c0_i32_6.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.addi c8_i32 v16
  let c0_i32_4 : BitVec 32 := 0#32
  let c0_i32_5 : BitVec 32 := 0#32
  let c0_i32_6 : BitVec 32 := 0#32
  ![v17.toNat, c0_i32_4.toNat, c0_i32_5.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  ![v0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x256x256 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x256x256 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x4 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== Reference2Ideal.lean ====
abbrev S32768x1024 : Shape := ⟨2, ![32768, 1024]⟩
abbrev S4x32768x256 : Shape := ⟨3, ![4, 32768, 256]⟩
abbrev S4x32768 : Shape := ⟨2, ![4, 32768]⟩
abbrev S16x6144 : Shape := ⟨2, ![16, 6144]⟩
abbrev S1024 : Shape := ⟨1, ![1024]⟩
abbrev S16x1024 : Shape := ⟨2, ![16, 1024]⟩
abbrev S32768x4 : Shape := ⟨2, ![32768, 4]⟩
abbrev S16x1x1024 : Shape := ⟨3, ![16, 1, 1024]⟩
abbrev S1x1024 : Shape := ⟨2, ![1, 1024]⟩
abbrev S65536x1024 : Shape := ⟨2, ![65536, 1024]⟩
abbrev S1x32768x256 : Shape := ⟨3, ![1, 32768, 256]⟩
abbrev S32768x256 : Shape := ⟨2, ![32768, 256]⟩
abbrev S32768x1 : Shape := ⟨2, ![32768, 1]⟩
abbrev S8x4096x1024 : Shape := ⟨3, ![8, 4096, 1024]⟩
abbrev S8x1x1024 : Shape := ⟨3, ![8, 1, 1024]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 16
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S4x32768x256, .i32⟩
  | .hbm, ⟨2, _⟩ => ⟨S4x32768x256, .i32⟩
  | .hbm, ⟨3, _⟩ => ⟨S4x32768, .f32⟩
  | .hbm, ⟨4, _⟩ => ⟨S32768x1024, .f32⟩
  | .hbm, ⟨5, _⟩ => ⟨S4x32768x256, .i32⟩
  | .hbm, ⟨6, _⟩ => ⟨S4x32768x256, .i32⟩
  | .hbm, ⟨7, _⟩ => ⟨S4x32768, .f32⟩
  | .hbm, ⟨8, _⟩ => ⟨S16x6144, .f32⟩
  | .hbm, ⟨9, _⟩ => ⟨S1024, .f32⟩
  | .hbm, ⟨10, _⟩ => ⟨S16x1024, .f32⟩
  | .hbm, ⟨11, _⟩ => ⟨S32768x4, .f32⟩
  | .hbm, ⟨12, _⟩ => ⟨S32768x4, .f32⟩
  | .hbm, ⟨13, _⟩ => ⟨S16x1x1024, .f32⟩
  | .hbm, ⟨14, _⟩ => ⟨S1x1024, .f32⟩
  | .hbm, ⟨15, _⟩ => ⟨S65536x1024, .f32⟩
  | .local _ .vmem, ⟨0, _⟩ => ⟨S32768x1024, .f32⟩
  | .local _ .vmem, ⟨1, _⟩ => ⟨S4x32768x256, .i32⟩
  | .local _ .vmem, ⟨2, _⟩ => ⟨S4x32768x256, .i32⟩
  | .local _ .vmem, ⟨3, _⟩ => ⟨S32768x4, .f32⟩
  | .local _ .vmem, ⟨4, _⟩ => ⟨S32768x1024, .f32⟩
  | .local _ .vmem, ⟨5, _⟩ => ⟨S4x32768x256, .i32⟩
  | .local _ .vmem, ⟨6, _⟩ => ⟨S4x32768x256, .i32⟩
  | .local _ .vmem, ⟨7, _⟩ => ⟨S32768x4, .f32⟩
  | .local _ .vmem, ⟨8, _⟩ => ⟨S16x1x1024, .f32⟩
  | .local _ .vmem, ⟨9, _⟩ => ⟨S1x1024, .f32⟩
  | .local _ .vmem, ⟨10, _⟩ => ⟨S65536x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S32768x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x32768x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x32768x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32768x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32768x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x32768x256 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x32768x256 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32768x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S65536x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Kernel3.lean ====
abbrev S16x1024 : Shape := ⟨2, ![16, 1024]⟩
abbrev S1024x6144 : Shape := ⟨2, ![1024, 6144]⟩
abbrev S6144 : Shape := ⟨1, ![6144]⟩
abbrev S1x6144 : Shape := ⟨2, ![1, 6144]⟩
abbrev S16x6144 : Shape := ⟨2, ![16, 6144]⟩
abbrev S1024x1536 : Shape := ⟨2, ![1024, 1536]⟩
abbrev S1x1536 : Shape := ⟨2, ![1, 1536]⟩
abbrev S16x1536 : Shape := ⟨2, ![16, 1536]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S16x6144, .f32⟩
  | .local _ .vmem, ⟨0, _⟩ => ⟨S16x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S16x1536, .f32⟩
  | .local _ .vmem, ⟨6, _⟩ => ⟨S16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S16x1024 : Shape := ⟨2, ![16, 1024]⟩
abbrev S1024x6144 : Shape := ⟨2, ![1024, 6144]⟩
abbrev S6144 : Shape := ⟨1, ![6144]⟩
abbrev S_ : Shape := ⟨0, ![]⟩
abbrev S16x6144 : Shape := ⟨2, ![16, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x6144, .f32⟩
  | .hbm, ⟨2, _⟩ => ⟨S6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x6144, .f32⟩
  | .hbm, ⟨13, _⟩ => ⟨S1x6144, .f32⟩
  | .hbm, ⟨14, _⟩ => ⟨S16x6144, .f32⟩
  | .hbm, ⟨15, _⟩ => ⟨S16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.Experts.Setup.lean ====
/- The experts' call `Cert.Kernel`: what its run is stated over. Host lines prepare two prefetched tables of 288
   words (`block_e`, the expert of each block of 512 rows; `n_valid`, how many of them are real) and reshape the biases; the call has six input
   windows of which four follow `block_e`, two output windows, and two scratch buffers that keep one expert's
   weights cast to bf16 from one grid point to the next. -/
module

public import proofs.«01_k».proof.Proof.Gen.Kernel.Launch
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (UR sig nD τ) ℕ

variable (m : (ℓ : Loc nD τ sig) → Buf (Elt F) ℓ)

/-! ## The launch -/

/-- The host lines before the call, in order. -/
abbrev hostLines : List (List (HloOp τ sig (Elt F))) := [hostOps0, hostOps0_1, hostOps0_2, hostOps0_3, hostOps0_4, hostOps0_5, hostOps0_6]

/-- A buffer's contents when the region starts: what the host lines leave there. -/
@[irreducible] def V (c : Dev nD) (b : Ref sig .tc) : Buf (Elt F) ((c : Thread nD τ).loc b) := StableHlo.after (List.flatten hostLines) (fun b => m (c, b)) b

/-- The host lines touch no buffer but the TensorCore's own, -/
theorem lines_sub : (hostLines : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub⟩
/-- and make none. -/
theorem lines_fresh : (hostLines : List (List (HloOp τ sig (Elt F)))).Forall fun ops => ops.Forall fun op => op.fresh = ∅ := by
  simp only [List.Forall]; repeat' constructor

/-- Which is computed only where the lines are read. -/
theorem V_lines : (V m : (c : Dev nD) → (b : Ref sig .tc) → Buf (Elt F) ((c : Thread nD τ).loc b))
    = fun (c : Dev nD) (b : Ref sig .tc) => StableHlo.after (List.flatten hostLines) (fun b => m (c, b)) b := by
  funext c b; unfold V; rfl

set_option maxHeartbeats 800000 in
/-- The program is its host lines and then its one region. -/
theorem hmain (𝒱₀ : Variants) : Pipeline.HMainP (Ix := Unit) (Name := ℕ) (U := UR sig nD τ) (Lvl := ℕ) pcfgs 0 defs₀ 𝒱₀ m (main (F := F)) (V m) := by
  rw [V_lines]
  exact Pipeline.hmainP_prefixes pcfgs 0 defs₀ 𝒱₀ m main hostLines lines_sub lines_fresh main_chain

/-- No host line writes an argument: the region finds it as launched. -/
theorem V_arg (c : Dev nD) (b : Ref sig .tc) (hb : b ∈ [main_arg0, main_arg1, main_arg2, main_arg3, main_arg4, main_arg5, main_arg6]) :
    V m c b = m ((c : Thread nD τ).loc b) := by
  rw [V_lines]
  exact StableHlo.after_of_forall_not_mem (b := Proc.devRef .tc b) _ _ (List.forall_iff_forall_mem.mp (by
    simp only [hostLines, hostOps0, hostOps0_1, hostOps0_2, hostOps0_3, hostOps0_4, hostOps0_5, hostOps0_6, List.flatten_cons, List.flatten_nil,
      List.append_nil, List.cons_append, List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne fun e => absurd (e ▸ hb) (by decide)))

/-- The two tables' words. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- Every block the tables name lies inside its array. -/
abbrev Ok : Prop := ok0 (F := F) (tbl m)

abbrev adm (hO : Ok m) : (pcfg0 (F := F)).Adm := ⟨tbl m, hO⟩
abbrev cfgM (hO : Ok m) : Pipeline.Cfg sig Λ₀ := cfg0 (adm m hO)

/-- The tables as the body is handed them. -/
abbrev beM : Memref sig .tc .smem S288 .i32 := Memref.whole main_v22
abbrev nvM : Memref sig .tc .smem S288 .i32 := Memref.whole main_v39

abbrev TbBuf (c : Dev nD) {S : Shape} {e : EltTy} (M : Memref sig .tc .smem S e) : Type := Buf (Elt F) (M.view.loc (c : Thread nD τ))
/-- A table held for reading: half of its share. -/
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄) = iprop(tbPt c beM (tbl m 0) ∗ tbPt c nvM (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows -/

/-- Window `w`'s block at point `t`, as the region finds the arrays. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The results' windows are written back at every point. -/
theorem flush6 (a : (pcfg0 (F := F)).Adm) : ∀ t : Fin (cfg0 a).N, ((cfg0 a).win 6).flush t = true :=
  (fun t => (Pipeline.Window.flushOf_reads cc0_transform_6 reads0_6 hreads0_6 0 (by decide) (by decide) (Pipeline.Window.sep_of_coord cc0_transform_6 0 0 (fun _ => rfl) (by decide)) (P := 1) (m := 0) (by decide) rfl t).mpr (Nat.mod_one _) : ∀ t : Fin grid0.N, Pipeline.Window.flushOf grid0 true cc0_transform_6 t = true)
theorem flush7 (a : (pcfg0 (F := F)).Adm) : ∀ t : Fin (cfg0 a).N, ((cfg0 a).win 7).flush t = true :=
  (fun t => (Pipeline.Window.flushOf_reads cc0_transform_7 reads0_7 hreads0_7 0 (by decide) (by decide) (Pipeline.Window.sep_of_coord cc0_transform_7 0 0 (fun _ => rfl) (by decide)) (P := 1) (m := 0) (by decide) rfl t).mpr (Nat.mod_one _) : ∀ t : Fin grid0.N, Pipeline.Window.flushOf grid0 true cc0_transform_7 t = true)

/-- An input's staging buffer holds the point's block, fetched there or kept. -/
theorem before_in (hO : Ok m) {c : Dev nD} (dat : Dat τ (Elt F) Unit ℕ (UR sig nD τ) ℕ (cfgM m hO) c)
    (hA : ∀ w, dat.A w = V m c (Pipeline.arrRef spec0 w)) :
    (∀ _ : ∀ t, dat.after 0 t = iblk m hO c 0 t, ∀ t d, dat.before 0 t d = iblk m hO c 0 t)
    ∧ (∀ _ : ∀ t, dat.after 1 t = iblk m hO c 1 t, ∀ t d, dat.before 1 t d = iblk m hO c 1 t)
    ∧ (∀ _ : ∀ t, dat.after 2 t = iblk m hO c 2 t, ∀ t d, dat.before 2 t d = iblk m hO c 2 t)
    ∧ (∀ _ : ∀ t, dat.after 3 t = iblk m hO c 3 t, ∀ t d, dat.before 3 t d = iblk m hO c 3 t)
    ∧ (∀ _ : ∀ t, dat.after 4 t = iblk m hO c 4 t, ∀ t d, dat.before 4 t d = iblk m hO c 4 t)
    ∧ (∀ _ : ∀ t, dat.after 5 t = iblk m hO c 5 t, ∀ t d, dat.before 5 t d = iblk m hO c 5 t) := by
  refine ⟨fun h t d => ?_, fun h t d => ?_, fun h t d => ?_, fun h t d => ?_, fun h t d => ?_, fun h t d => ?_⟩
  · exact (dat.before_in_eq_fetched 0 rfl (fun _ => rfl) (fun _ _ _ => rfl) (fun t => by rw [h]; unfold Dat.blockOf iblk; rw [hA]) t d).trans
      (by unfold Dat.fetched Dat.blockOf iblk; rw [hA]; rfl)
  · exact (dat.before_in_eq_fetched 1 rfl (fun _ => rfl) (fun _ _ _ => rfl) (fun t => by rw [h]; unfold Dat.blockOf iblk; rw [hA]) t d).trans
      (by unfold Dat.fetched Dat.blockOf iblk; rw [hA]; rfl)
  · exact (dat.before_in_eq_fetched 2 rfl (fun _ => rfl) (fun _ _ _ => rfl) (fun t => by rw [h]; unfold Dat.blockOf iblk; rw [hA]) t d).trans
      (by unfold Dat.fetched Dat.blockOf iblk; rw [hA]; rfl)
  · exact (dat.before_in_eq_fetched 3 rfl (fun _ => rfl) (fun _ _ _ => rfl) (fun t => by rw [h]; unfold Dat.blockOf iblk; rw [hA]) t d).trans
      (by unfold Dat.fetched Dat.blockOf iblk; rw [hA]; rfl)
  · exact (dat.before_in_eq_fetched 4 rfl (fun _ => rfl) (fun _ _ _ => rfl) (fun t => by rw [h]; unfold Dat.blockOf iblk; rw [hA]) t d).trans
      (by unfold Dat.fetched Dat.blockOf iblk; rw [hA]; rfl)
  · exact (dat.before_in_eq_fetched 5 rfl (fun _ => rfl) (fun _ _ _ => rfl) (fun t => by rw [h]; unfold Dat.blockOf iblk; rw [hA]) t d).trans
      (by unfold Dat.fetched Dat.blockOf iblk; rw [hA]; rfl)

/-! ## What the body is called on -/

abbrev ms0 (hO : Ok m) (t : Fin (cfgM m hO).N) : Memref sig .tc .vmem S512x256 .i32 := spec0_0.stage ((cfgM m hO).slots t 0)
abbrev ms1 (hO : Ok m) (t : Fin (cfgM m hO).N) : Memref sig .tc .vmem S512x256 .i32 := spec0_1.stage ((cfgM m hO).slots t 1)
abbrev ms2 (hO : Ok m) (t : Fin (cfgM m hO).N) : Memref sig .tc .vmem S1x1024x2048 .f32 := spec0_2.stage ((cfgM m hO).slots t 2)
abbrev ms3 (hO : Ok m) (t : Fin (cfgM m hO).N) : Memref sig .tc .vmem S1x1x2048 .f32 := spec0_3.stage ((cfgM m hO).slots t 3)
abbrev ms4 (hO : Ok m) (t : Fin (cfgM m hO).N) : Memref sig .tc .vmem S1x1024x1024 .f32 := spec0_4.stage ((cfgM m hO).slots t 4)
abbrev ms5 (hO : Ok m) (t : Fin (cfgM m hO).N) : Memref sig .tc .vmem S1x1x1024 .f32 := spec0_5.stage ((cfgM m hO).slots t 5)
abbrev ms6 (hO : Ok m) (t : Fin (cfgM m hO).N) : Memref sig .tc .vmem S512x256 .i32 := spec0_6.stage ((cfgM m hO).slots t 6)
abbrev ms7 (hO : Ok m) (t : Fin (cfgM m hO).N) : Memref sig .tc .vmem S512x256 .i32 := spec0_7.stage ((cfgM m hO).slots t 7)
/-- The scratch buffers: the point's expert's `w_gu` and `w_down` in bf16. -/
abbrev guM : Memref sig .tc .vmem S1024x2048 .bf16 := Memref.whole cc0_scratch0
abbrev dnM : Memref sig .tc .vmem S1024x1024 .bf16 := Memref.whole cc0_scratch1

/-- The body at point `t`. -/
abbrev bodyAt (a : (pcfg0 (F := F)).Adm) (t : Fin (cfg0 a).N) : Prog (TpuEff nD τ sig (Elt F) Λ₀ .tc) PUnit :=
  cc0_experts (grid0.coords t) beM (Memref.isWhole_whole _) nvM (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) guM (Memref.isWhole_whole _) dnM (Memref.isWhole_whole _)

/-- The region's own invariant: the scratch at some contents and the generator's register. -/
theorem PhiA_eq (c : Dev nD) :
    (Pipeline.ΦA spec0 c : sProp 𝕄)
      = iprop(iprop((∃ d, owns (c : Thread nD τ) guM fullShare d) ∗ (∃ d, owns (c : Thread nD τ) dnM fullShare d)) ∗ (∃ r, prngReg c r)) := by
  unfold Pipeline.ΦA; rw [scopedRest0_eq]; simp only [guM, dnM, owns_whole]; rfl

end Cert.Kernel.Experts

end
-- ==== Proof.Experts.Block.lean ====
/- What the experts' call leaves in a block of 512 rows, as a function of the block's inputs: the rows in two halves
   of 256, each through the call's own operations. -/
module

public import proofs.«01_k».proof.Proof.Experts.Setup
public import Idealize.ShloMosaic.Lib.Pipeline.Value
public import Idealize.ShloMosaic.Lib.VecWindow
public import Idealize.ShloMosaic.Lib.WordCmp

@[expose] public section

set_option maxRecDepth 16384

noncomputable section

namespace Cert.Kernel.Experts

open Idealize.ShloMosaic Idealize.ShloMosaic.TcCoe
open Cert.Kernel.Gen

variable {F : FTy → Type} [BitOps F]

/-! ## Loads of whole buffers -/

theorem ld_gu (X : Vec F S1024x2048 .bf16) : View.ld X (Rect.unit (s := S1024x2048) ![0, 0] ![1024, 2048] inb_S1024x2048_S1024x2048_0_0) = X :=
  View.ld_unit_zero (by funext a; fin_cases a <;> rfl) _ X
theorem ld_dn (X : Vec F S1024x1024 .bf16) : View.ld X (Rect.unit (s := S1024x1024) ![0, 0] ![1024, 1024] inb_S1024x1024_S1024x1024_0_0) = X :=
  View.ld_unit_zero (by funext a; fin_cases a <;> rfl) _ X
theorem ld_row3 (X : Vec F S1x1x2048 .f32) : View.ld X (Rect.unit (s := S1x1x2048) ![0, 0, 0] ![1, 1, 2048] inb_S1x1x2048_S1x1x2048_0_0_0) = X :=
  View.ld_unit_zero (by funext a; fin_cases a <;> rfl) _ X
theorem ld_row3' (X : Vec F S1x1x1024 .f32) : View.ld X (Rect.unit (s := S1x1x1024) ![0, 0, 0] ![1, 1, 1024] inb_S1x1x1024_S1x1x1024_0_0_0) = X :=
  View.ld_unit_zero (by funext a; fin_cases a <;> rfl) _ X
theorem ld_x2 (X : Vec F S1x1024x2048 .f32) : View.ld X (Rect.unit (s := S1x1024x2048) ![0, 0, 0] ![1, 1024, 2048] inb_S1x1024x2048_S1x1024x2048_0_0_0) = X :=
  View.ld_unit_zero (by funext a; fin_cases a <;> rfl) _ X
theorem ld_x4 (X : Vec F S1x1024x1024 .f32) : View.ld X (Rect.unit (s := S1x1024x1024) ![0, 0, 0] ![1, 1024, 1024] inb_S1x1024x1024_S1x1024x1024_0_0_0) = X :=
  View.ld_unit_zero (by funext a; fin_cases a <;> rfl) _ X

/-- A load of the weights just cast. -/
theorem cov_gu {κ : Kind} {sp : Space} (v : View sig κ sp S1024x2048 .bf16) (w : Vec F S1024x2048 .bf16) :
    v.readCov (Val := Elt F) [⟨Rect.unit (s := S1024x2048) ![0, 0] ![1024, 2048] inb_S1024x2048_S1024x2048_0_0, w⟩] (Rect.unit (s := S1024x2048) ![0, 0] ![1024, 2048] inb_S1024x2048_S1024x2048_0_0).toLoadRect = w :=
  View.readCov_full v inb_S1024x2048_S1024x2048_0_0 inb_S1024x2048_S1024x2048_0_0 w []
theorem cov_dn {κ : Kind} {sp : Space} (v : View sig κ sp S1024x1024 .bf16) (w : Vec F S1024x1024 .bf16) :
    v.readCov (Val := Elt F) [⟨Rect.unit (s := S1024x1024) ![0, 0] ![1024, 1024] inb_S1024x1024_S1024x1024_0_0, w⟩] (Rect.unit (s := S1024x1024) ![0, 0] ![1024, 1024] inb_S1024x1024_S1024x1024_0_0).toLoadRect = w :=
  View.readCov_full v inb_S1024x1024_S1024x1024_0_0 inb_S1024x1024_S1024x1024_0_0 w []

/-! ## The block -/

/-- The rows 0–255 and 256–511 of a block. -/
abbrev loR : Rect S512x256 := Rect.unit (s := S512x256) ![0, 0] S256x256.size inb_S512x256_S256x256_0_0
abbrev hiR : Rect S512x256 := Rect.unit (s := S512x256) ![256, 0] S256x256.size inb_S512x256_S256x256_256_0
abbrev lo (x : Vec F S512x256 .i32) : Vec F S256x256 .i32 := View.ld x loR
abbrev hi (x : Vec F S512x256 .i32) : Vec F S256x256 .i32 := View.ld x hiR

/-- A block put together from its halves. -/
def halves (h l : Vec F S256x256 .i32) : Vec F S512x256 .i32 := View.canon (Val := Elt F) [⟨hiR, h⟩, ⟨loR, l⟩]

theorem halves_cover (h l : Vec F S256x256 .i32) (y : S512x256.Idx) :
    ∃ p ∈ ([⟨hiR, h⟩, ⟨loR, l⟩] : List (View.Piece (Elt F) S512x256 .i32)), y ∈ p.1.set := by
  by_cases hy : (y 0).val < 256
  · refine ⟨⟨loR, l⟩, by simp, ?_⟩
    rw [Rect.mem_set_unit]
    exact Fin.forall_fin_two.mpr ⟨⟨Nat.zero_le _, by simpa using hy⟩, ⟨Nat.zero_le _, by simpa using (y 1).isLt⟩⟩
  · refine ⟨⟨hiR, h⟩, by simp, ?_⟩
    rw [Rect.mem_set_unit]
    exact Fin.forall_fin_two.mpr ⟨⟨by simpa using hy, by simpa using (y 0).isLt⟩, ⟨Nat.zero_le _, by simpa using (y 1).isLt⟩⟩

/-- The upper half of the block put together is its upper half; -/
theorem hi_halves (h l : Vec F S256x256 .i32) (x : S256x256.Idx) : halves h l (hiR.emb x) = h x :=
  View.canon_cons_emb hiR h _ x
/-- the lower half, its lower. -/
theorem lo_halves (h l : Vec F S256x256 .i32) (x : S256x256.Idx) : halves h l (loR.emb x) = l x := by
  unfold halves
  rw [View.canon_cons_of_not_mem]
  · exact View.canon_cons_emb loR l _ x
  · intro hm
    have := ((Rect.mem_set_unit (inb := inb_S512x256_S256x256_256_0)).mp hm 0).1
    have h2 : ((loR.emb x) 0).val = 0 + (x 0).val := by show 0 + 1 * (x 0).val = _; omega
    have h3 : (x 0).val < 256 := (x 0).isLt
    have h4 : 256 ≤ ((loR.emb x) 0).val := this
    omega

variable (nv : BitVec 32) (x0 x1 : Vec F S512x256 .i32) (x3 : Vec F S1x1x2048 .f32) (x5 : Vec F S1x1x1024 .f32)
  (g : Vec F S1024x2048 .bf16) (d : Vec F S1024x1024 .bf16)

/-- The first result's block with more than 256 real rows: both halves computed. -/
def fullA : Vec F S512x256 .i32 :=
  halves (k0_pay23 (k0_pay20 nv (hi x0) (hi x1)) (k0_pay21 x3) g (constant S256x2048 .f32 0x00000000#32) x5 d)
    (k0_pay18 (k0_pay13 nv (lo x0) (lo x1) x3 g) (k0_pay14 nv (lo x0) (lo x1) x3 g) (k0_pay15 nv (lo x0) (lo x1) x3 g) k0_pay16 x5 d)
/-- The second result's. -/
def fullB : Vec F S512x256 .i32 :=
  halves (k0_pay24 (k0_pay20 nv (hi x0) (hi x1)) (k0_pay21 x3) g (constant S256x2048 .f32 0x00000000#32) x5 d)
    (k0_pay19 (k0_pay13 nv (lo x0) (lo x1) x3 g) (k0_pay14 nv (lo x0) (lo x1) x3 g) (k0_pay15 nv (lo x0) (lo x1) x3 g) k0_pay16 x5 d)
/-- With 1 to 256 real rows: the first half computed, the second zero. -/
def halfA : Vec F S512x256 .i32 :=
  halves k0_pay6 (k0_pay4 (k0_pay26 nv (lo x0) (lo x1) x3 g) (k0_pay27 nv (lo x0) (lo x1) x3 g) (k0_pay28 nv (lo x0) (lo x1) x3 g) k0_pay29 x5 d)
def halfB : Vec F S512x256 .i32 :=
  halves k0_pay7 (k0_pay5 (k0_pay26 nv (lo x0) (lo x1) x3 g) (k0_pay27 nv (lo x0) (lo x1) x3 g) (k0_pay28 nv (lo x0) (lo x1) x3 g) k0_pay29 x5 d)
/-- With no real row: zero. -/
def noneA : Vec F S512x256 .i32 := halves k0_pay10 k0_pay8
def noneB : Vec F S512x256 .i32 := halves k0_pay11 k0_pay9

/-- What the call leaves in a block of each result. -/
def blkA : Vec F S512x256 .i32 :=
  if k0_cond2 nv = 1#1 then fullA nv x0 x1 x3 x5 g d else if k0_cond3 nv = 1#1 then halfA nv x0 x1 x3 x5 g d else noneA
def blkB : Vec F S512x256 .i32 :=
  if k0_cond2 nv = 1#1 then fullB nv x0 x1 x3 x5 g d else if k0_cond3 nv = 1#1 then halfB nv x0 x1 x3 x5 g d else noneB

theorem bit_ne (b : BitVec 1) : IntOp.cmpi .ne (b.setWidth 32) 0#32 = 1#1 ↔ b = 1#1 := by revert b; decide
theorem bit_and (a b : BitVec 1) : IntOp.andi a b = 1#1 ↔ a = 1#1 ∧ b = 1#1 := by revert a b; decide
theorem bit_of (p : Prop) [Decidable p] : BitVec.ofBool (decide p) = 1#1 ↔ p := by by_cases h : p <;> simp [h]

theorem sgt_one (x y : BitVec 32) : IntOp.cmpi .sgt x y = 1#1 ↔ y.toInt < x.toInt := bit_of _
theorem sle_one (x y : BitVec 32) : IntOp.cmpi .sle x y = 1#1 ↔ x.toInt ≤ y.toInt := bit_of _
theorem cond2_iff (nv : BitVec 32) : k0_cond2 nv = 1#1 ↔ 256 < nv.toInt := by
  unfold k0_cond2
  simp only [Scalar.cmpi, Scalar.extui, Scalar.andi, bit_ne, sgt_one]
  rfl
theorem cond3_iff (nv : BitVec 32) : k0_cond3 nv = 1#1 ↔ 0 < nv.toInt ∧ nv.toInt ≤ 256 := by
  unfold k0_cond3
  simp only [Scalar.cmpi, Scalar.extui, Scalar.andi, bit_ne, bit_and, sgt_one, sle_one]
  rfl
theorem cond4_iff (nv : BitVec 32) : k0_cond4 nv = 1#1 ↔ nv.toInt ≤ 0 := by
  unfold k0_cond4
  simp only [Scalar.cmpi, Scalar.extui, Scalar.andi, bit_ne, sle_one]
  rfl

/-- Exactly one of the three ways is taken. -/
theorem conds (nv : BitVec 32) :
    (k0_cond2 nv = 1#1 ∧ ¬ k0_cond3 nv = 1#1 ∧ ¬ k0_cond4 nv = 1#1) ∨ (¬ k0_cond2 nv = 1#1 ∧ k0_cond3 nv = 1#1 ∧ ¬ k0_cond4 nv = 1#1)
      ∨ (¬ k0_cond2 nv = 1#1 ∧ ¬ k0_cond3 nv = 1#1 ∧ k0_cond4 nv = 1#1) := by
  rw [cond2_iff, cond3_iff, cond4_iff]
  omega

end Cert.Kernel.Experts

end
-- ==== Proof.Experts.Run.lean ====
/- The body of the experts' call, run once for each way its four `if`s can go: the weights cast anew or kept,
   and more than 256 rows real, 1 to 256, or none. What each run leaves is named as a function of the point's
   blocks. -/
module

public import proofs.«01_k».proof.Proof.Experts.Block

@[expose] public section

set_option maxRecDepth 16384

noncomputable section

namespace Cert.Kernel.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [BitOps F]

local notation "𝕄" => MT nD τ sig Unit (Elt F) ℕ (UR sig nD τ) ℕ

/-- The word of a table the body reads at the offset `off`. -/
abbrev wordAt (c : Dev nD) (M : Memref sig .tc .smem S288 .i32) (xt : TbBuf (F := F) c M) (off : Fin 1 → Nat) (h : ∀ a, off a + S1.size a ≤ S288.size a) : BitVec 32 :=
  M.view.readAt (Elt F) (Rect.unit (s := S288) off S1.size h).toLoadRect xt (Shape.Idx.first (numel1_S1.symm ▸ Nat.one_pos))

/-- The point's expert's weights are cast anew: the first point, or another expert than the point before. -/
abbrev refresh (i : grid0.Coords) (e e' : BitVec 32) : Prop :=
  Scalar.cmpi .ne (Scalar.extui (Scalar.ori (Scalar.cmpi .eq (BitVec.ofNat 32 (i 0).val) 0#32) (Scalar.cmpi .ne e e'))) 0#32 = 1#1

/-- A load of a whole memref at known contents, through a rectangle. -/
theorem readAt_unread_ld {κ : Kind} {sp : Space} {s : Shape} {e : EltTy} {Val : EltTy → Type} {M : Memref sig κ sp s e} (h : M.IsWhole)
    (X : s.Idx → Val e) (r : Rect s) : M.view.readAt Val r.toLoadRect (h.unread X) = View.ld X r := by
  rw [View.readAt_eq_ld, h.read_unread]

variable (c : Dev nD) (i : grid0.Coords)
  (arg3 : Memref sig .tc .vmem S512x256 .i32) (harg3 : arg3.IsWhole) (arg4 : Memref sig .tc .vmem S512x256 .i32) (harg4 : arg4.IsWhole)
  (arg5 : Memref sig .tc .vmem S1x1024x2048 .f32) (harg5 : arg5.IsWhole) (arg6 : Memref sig .tc .vmem S1x1x2048 .f32) (harg6 : arg6.IsWhole)
  (arg7 : Memref sig .tc .vmem S1x1024x1024 .f32) (harg7 : arg7.IsWhole) (arg8 : Memref sig .tc .vmem S1x1x1024 .f32) (harg8 : arg8.IsWhole)
  (arg9 : Memref sig .tc .vmem S512x256 .i32) (harg9 : arg9.IsWhole) (arg10 : Memref sig .tc .vmem S512x256 .i32) (harg10 : arg10.IsWhole)
  (arg11 : Memref sig .tc .vmem S1024x2048 .bf16) (harg11 : arg11.IsWhole) (arg12 : Memref sig .tc .vmem S1024x1024 .bf16) (harg12 : arg12.IsWhole)
  (x0 x1 : Vec F S512x256 .i32) (x2 : Vec F S1x1024x2048 .f32) (x3 : Vec F S1x1x2048 .f32) (x4 : Vec F S1x1024x1024 .f32) (x5 : Vec F S1x1x1024 .f32)
  (s0 : Vec F S1024x2048 .bf16) (s1 : Vec F S1024x1024 .bf16) (tb tn : TbBuf (F := F) c beM)

/-- The body, called with its inputs at `x0 … x5`, its scratch at `s0`, `s1` and its tables at `tb`, `tn`, ends with
    the inputs and tables as they were, its results at `A`, `B` and its scratch at `g`, `d`. -/
def Leaves (A B : Vec F S512x256 .i32) (g : Vec F S1024x2048 .bf16) (d : Vec F S1024x1024 .bf16) : Prop :=
  ∀ (E : Set ℕ) (K : PUnit → sProp 𝕄),
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
        ∗ (∃ d, owns (c : Thread nD τ) arg9 fullShare d) ∗ (∃ d, owns (c : Thread nD τ) arg10 fullShare d) ∗ owns (c : Thread nD τ) arg11 fullShare s0 ∗ owns (c : Thread nD τ) arg12 fullShare s1 ∗ tbPt c beM tb ∗ tbPt c nvM tn
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
          ∗ owns (c : Thread nD τ) arg9 fullShare A ∗ owns (c : Thread nD τ) arg10 fullShare B ∗ owns (c : Thread nD τ) arg11 fullShare g ∗ owns (c : Thread nD τ) arg12 fullShare d ∗ tbPt c beM tb ∗ tbPt c nvM tn) -∗ K ⟨⟩))
      ⊢ wp frame (wpE (defs₀ (F := F)) Variants.none c none) E (cc0_experts i beM (Memref.isWhole_whole _) nvM (Memref.isWhole_whole _) arg3 harg3 arg4 harg4 arg5 harg5 arg6 harg6 arg7 harg7 arg8 harg8 arg9 harg9 arg10 harg10 arg11 harg11 arg12 harg12) K

set_option maxHeartbeats 1600000 in
/-- Weights cast anew, more than 256 rows real. -/
theorem run_new_full (hr : refresh i (wordAt c beM tb (k0_off1 i) (k0_off1_inb i)) (wordAt c beM tb (k0_off2 i) (k0_off2_inb i)))
    (h2 : k0_cond2 (wordAt c nvM tn (k0_off1 i) (k0_off1_inb i)) = 1#1) (h3 : ¬ k0_cond3 (wordAt c nvM tn (k0_off1 i) (k0_off1_inb i)) = 1#1) (h4 : ¬ k0_cond4 (wordAt c nvM tn (k0_off1 i) (k0_off1_inb i)) = 1#1) :
    Leaves c i arg3 harg3 arg4 harg4 arg5 harg5 arg6 harg6 arg7 harg7 arg8 harg8 arg9 harg9 arg10 harg10 arg11 harg11 arg12 harg12 x0 x1 x2 x3 x4 x5 s0 s1 tb tn
      (fullA (wordAt c nvM tn (k0_off1 i) (k0_off1_inb i)) x0 x1 x3 x5 (k0_pay1 x2) (k0_pay2 x4)) (fullB (wordAt c nvM tn (k0_off1 i) (k0_off1_inb i)) x0 x1 x3 x5 (k0_pay1 x2) (k0_pay2 x4)) (k0_pay1 x2) (k0_pay2 x4) := by
  intro E K
  simp only [cc0_experts_eq_skeleton]; unfold cc0_experts_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, HT0, HT1, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5
  obtain rfl := harg11.eq_unread hfs0; obtain rfl := harg12.eq_unread hfs1
  sl_exec (disch := first | sl_exact hr | sl_exact h2 | sl_exact h3 | sl_exact h4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    rw [View.read_writes_eq_canon _ _ _ (halves_cover _ _)]
    try sl_unfold_run_names
    try simp only [readAt_unread_ld, ld_row3, ld_row3', ld_dn, ld_gu, cov_gu, cov_dn, ld_x2, ld_x4]
    unfold fullA halves
    rfl
  isplitl [H7]
  · iexists _; isplitr; swap; · iexact H7
    ipureintro
    rw [View.read_writes_eq_canon _ _ _ (halves_cover _ _)]
    try sl_unfold_run_names
    try simp only [readAt_unread_ld, ld_row3, ld_row3', ld_dn, ld_gu, cov_gu, cov_dn, ld_x2, ld_x4]
    unfold fullB halves
    rfl
  isplitl [HS0]
  · iexists _; isplitr; swap; · iexact HS0
    ipureintro
    sl_unfold_run_names
    rw [View.read_writes_full]
    simp only [readAt_unread_ld, ld_x2, ld_x4]
  isplitl [HS1]
  · iexists _; isplitr; swap; · iexact HS1
    ipureintro
    sl_unfold_run_names
    rw [View.read_writes_full]
    simp only [readAt_unread_ld, ld_x2, ld_x4]
  isplitl [HT0]; · iexact HT0
  iexact HT1

set_option maxHeartbeats 1600000 in
/-- Weights cast anew, 1 to 256 rows real. -/
theorem run_new_half (hr : refresh i (wordAt c beM tb (k0_off1 i) (k0_off1_inb i)) (wordAt c beM tb (k0_off2 i) (k0_off2_inb i)))
    (h2 : ¬ k0_cond2 (wordAt c nvM tn (k0_off1 i) (k0_off1_inb i)) = 1#1) (h3 : k0_cond3 (wordAt c nvM tn (k0_off1 i) (k0_off1_inb i)) = 1#1) (h4 : ¬ k0_cond4 (wordAt c nvM tn (k0_off1 i) (k0_off1_inb i)) = 1#1) :
    Leaves c i arg3 harg3 arg4 harg4 arg5 harg5 arg6 harg6 arg7 harg7 arg8 harg8 arg9 harg9 arg10 harg10 arg11 harg11 arg12 harg12 x0 x1 x2 x3 x4 x5 s0 s1 tb tn
      (halfA (wordAt c nvM tn (k0_off1 i) (k0_off1_inb i)) x0 x1 x3 x5 (k0_pay1 x2) (k0_pay2 x4)) (halfB (wordAt c nvM tn (k0_off1 i) (k0_off1_inb i)) x0 x1 x3 x5 (k0_pay1 x2) (k0_pay2 x4)) (k0_pay1 x2) (k0_pay2 x4) := by
  intro E K
  simp only [cc0_experts_eq_skeleton]; unfold cc0_experts_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, HT0, HT1, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5
  obtain rfl := harg11.eq_unread hfs0; obtain rfl := harg12.eq_unread hfs1
  sl_exec (disch := first | sl_exact hr | sl_exact h2 | sl_exact h3 | sl_exact h4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    rw [View.read_writes_eq_canon _ _ _ (halves_cover _ _)]
    try sl_unfold_run_names
    try simp only [readAt_unread_ld, ld_row3, ld_row3', ld_dn, ld_gu, cov_gu, cov_dn, ld_x2, ld_x4]
    unfold halfA halves
    rfl
  isplitl [H7]
  · iexists _; isplitr; swap; · iexact H7
    ipureintro
    rw [View.read_writes_eq_canon _ _ _ (halves_cover _ _)]
    try sl_unfold_run_names
    try simp only [readAt_unread_ld, ld_row3, ld_row3', ld_dn, ld_gu, cov_gu, cov_dn, ld_x2, ld_x4]
    unfold halfB halves
    rfl
  isplitl [HS0]
  · iexists _; isplitr; swap; · iexact HS0
    ipureintro
    sl_unfold_run_names
    rw [View.read_writes_full]
    simp only [readAt_unread_ld, ld_x2, ld_x4]
  isplitl [HS1]
  · iexists _; isplitr; swap; · iexact HS1
    ipureintro
    sl_unfold_run_names
    rw [View.read_writes_full]
    simp only [readAt_unread_ld, ld_x2, ld_x4]
  isplitl [HT0]; · iexact HT0
  iexact HT1

set_option maxHeartbeats 1600000 in
/-- Weights cast anew, no row real. -/
theorem run_new_none (hr : refresh i (wordAt c beM tb (k0_off1 i) (k0_off1_inb i)) (wordAt c beM tb (k0_off2 i) (k0_off2_inb i)))
    (h2 : ¬ k0_cond2 (wordAt c nvM tn (k0_off1 i) (k0_off1_inb i)) = 1#1) (h3 : ¬ k0_cond3 (wordAt c nvM tn (k0_off1 i) (k0_off1_inb i)) = 1#1) (h4 : k0_cond4 (wordAt c nvM tn (k0_off1 i) (k0_off1_inb i)) = 1#1) :
    Leaves c i arg3 harg3 arg4 harg4 arg5 harg5 arg6 harg6 arg7 harg7 arg8 harg8 arg9 harg9 arg10 harg10 arg11 harg11 arg12 harg12 x0 x1 x2 x3 x4 x5 s0 s1 tb tn
      noneA noneB (k0_pay1 x2) (k0_pay2 x4) := by
  intro E K
  simp only [cc0_experts_eq_skeleton]; unfold cc0_experts_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, HT0, HT1, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5
  obtain rfl := harg11.eq_unread hfs0; obtain rfl := harg12.eq_unread hfs1
  sl_exec (disch := first | sl_exact hr | sl_exact h2 | sl_exact h3 | sl_exact h4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    rw [View.read_writes_eq_canon _ _ _ (halves_cover _ _)]
    try sl_unfold_run_names
    try simp only [readAt_unread_ld, ld_row3, ld_row3', ld_dn, ld_gu, cov_gu, cov_dn, ld_x2, ld_x4]
    unfold noneA halves
    rfl
  isplitl [H7]
  · iexists _; isplitr; swap; · iexact H7
    ipureintro
    rw [View.read_writes_eq_canon _ _ _ (halves_cover _ _)]
    try sl_unfold_run_names
    try simp only [readAt_unread_ld, ld_row3, ld_row3', ld_dn, ld_gu, cov_gu, cov_dn, ld_x2, ld_x4]
    unfold noneB halves
    rfl
  isplitl [HS0]
  · iexists _; isplitr; swap; · iexact HS0
    ipureintro
    sl_unfold_run_names
    rw [View.read_writes_full]
    simp only [readAt_unread_ld, ld_x2, ld_x4]
  isplitl [HS1]
  · iexists _; isplitr; swap; · iexact HS1
    ipureintro
    sl_unfold_run_names
    rw [View.read_writes_full]
    simp only [readAt_unread_ld, ld_x2, ld_x4]
  isplitl [HT0]; · iexact HT0
  iexact HT1

set_option maxHeartbeats 1600000 in
/-- Weights kept, more than 256 rows real. -/
theorem run_old_full (hr : ¬ refresh i (wordAt c beM tb (k0_off1 i) (k0_off1_inb i)) (wordAt c beM tb (k0_off2 i) (k0_off2_inb i)))
    (h2 : k0_cond2 (wordAt c nvM tn (k0_off1 i) (k0_off1_inb i)) = 1#1) (h3 : ¬ k0_cond3 (wordAt c nvM tn (k0_off1 i) (k0_off1_inb i)) = 1#1) (h4 : ¬ k0_cond4 (wordAt c nvM tn (k0_off1 i) (k0_off1_inb i)) = 1#1) :
    Leaves c i arg3 harg3 arg4 harg4 arg5 harg5 arg6 harg6 arg7 harg7 arg8 harg8 arg9 harg9 arg10 harg10 arg11 harg11 arg12 harg12 x0 x1 x2 x3 x4 x5 s0 s1 tb tn
      (fullA (wordAt c nvM tn (k0_off1 i) (k0_off1_inb i)) x0 x1 x3 x5 s0 s1) (fullB (wordAt c nvM tn (k0_off1 i) (k0_off1_inb i)) x0 x1 x3 x5 s0 s1) s0 s1 := by
  intro E K
  simp only [cc0_experts_eq_skeleton]; unfold cc0_experts_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, HT0, HT1, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5
  obtain rfl := harg11.eq_unread hfs0; obtain rfl := harg12.eq_unread hfs1
  sl_exec (disch := first | sl_exact hr | sl_exact h2 | sl_exact h3 | sl_exact h4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    rw [View.read_writes_eq_canon _ _ _ (halves_cover _ _)]
    try sl_unfold_run_names
    try simp only [readAt_unread_ld, ld_row3, ld_row3', ld_dn, ld_gu, cov_gu, cov_dn, ld_x2, ld_x4]
    unfold fullA halves
    rfl
  isplitl [H7]
  · iexists _; isplitr; swap; · iexact H7
    ipureintro
    rw [View.read_writes_eq_canon _ _ _ (halves_cover _ _)]
    try sl_unfold_run_names
    try simp only [readAt_unread_ld, ld_row3, ld_row3', ld_dn, ld_gu, cov_gu, cov_dn, ld_x2, ld_x4]
    unfold fullB halves
    rfl
  isplitl [HS0]
  · iexists _; isplitr; · ipureintro; exact harg11.read_unread _
    iexact HS0
  isplitl [HS1]
  · iexists _; isplitr; · ipureintro; exact harg12.read_unread _
    iexact HS1
  isplitl [HT0]; · iexact HT0
  iexact HT1

set_option maxHeartbeats 1600000 in
/-- Weights kept, 1 to 256 rows real. -/
theorem run_old_half (hr : ¬ refresh i (wordAt c beM tb (k0_off1 i) (k0_off1_inb i)) (wordAt c beM tb (k0_off2 i) (k0_off2_inb i)))
    (h2 : ¬ k0_cond2 (wordAt c nvM tn (k0_off1 i) (k0_off1_inb i)) = 1#1) (h3 : k0_cond3 (wordAt c nvM tn (k0_off1 i) (k0_off1_inb i)) = 1#1) (h4 : ¬ k0_cond4 (wordAt c nvM tn (k0_off1 i) (k0_off1_inb i)) = 1#1) :
    Leaves c i arg3 harg3 arg4 harg4 arg5 harg5 arg6 harg6 arg7 harg7 arg8 harg8 arg9 harg9 arg10 harg10 arg11 harg11 arg12 harg12 x0 x1 x2 x3 x4 x5 s0 s1 tb tn
      (halfA (wordAt c nvM tn (k0_off1 i) (k0_off1_inb i)) x0 x1 x3 x5 s0 s1) (halfB (wordAt c nvM tn (k0_off1 i) (k0_off1_inb i)) x0 x1 x3 x5 s0 s1) s0 s1 := by
  intro E K
  simp only [cc0_experts_eq_skeleton]; unfold cc0_experts_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, HT0, HT1, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5
  obtain rfl := harg11.eq_unread hfs0; obtain rfl := harg12.eq_unread hfs1
  sl_exec (disch := first | sl_exact hr | sl_exact h2 | sl_exact h3 | sl_exact h4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    rw [View.read_writes_eq_canon _ _ _ (halves_cover _ _)]
    try sl_unfold_run_names
    try simp only [readAt_unread_ld, ld_row3, ld_row3', ld_dn, ld_gu, cov_gu, cov_dn, ld_x2, ld_x4]
    unfold halfA halves
    rfl
  isplitl [H7]
  · iexists _; isplitr; swap; · iexact H7
    ipureintro
    rw [View.read_writes_eq_canon _ _ _ (halves_cover _ _)]
    try sl_unfold_run_names
    try simp only [readAt_unread_ld, ld_row3, ld_row3', ld_dn, ld_gu, cov_gu, cov_dn, ld_x2, ld_x4]
    unfold halfB halves
    rfl
  isplitl [HS0]
  · iexists _; isplitr; · ipureintro; exact harg11.read_unread _
    iexact HS0
  isplitl [HS1]
  · iexists _; isplitr; · ipureintro; exact harg12.read_unread _
    iexact HS1
  isplitl [HT0]; · iexact HT0
  iexact HT1

set_option maxHeartbeats 1600000 in
/-- Weights kept, no row real. -/
theorem run_old_none (hr : ¬ refresh i (wordAt c beM tb (k0_off1 i) (k0_off1_inb i)) (wordAt c beM tb (k0_off2 i) (k0_off2_inb i)))
    (h2 : ¬ k0_cond2 (wordAt c nvM tn (k0_off1 i) (k0_off1_inb i)) = 1#1) (h3 : ¬ k0_cond3 (wordAt c nvM tn (k0_off1 i) (k0_off1_inb i)) = 1#1) (h4 : k0_cond4 (wordAt c nvM tn (k0_off1 i) (k0_off1_inb i)) = 1#1) :
    Leaves c i arg3 harg3 arg4 harg4 arg5 harg5 arg6 harg6 arg7 harg7 arg8 harg8 arg9 harg9 arg10 harg10 arg11 harg11 arg12 harg12 x0 x1 x2 x3 x4 x5 s0 s1 tb tn
      noneA noneB s0 s1 := by
  intro E K
  simp only [cc0_experts_eq_skeleton]; unfold cc0_experts_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, HT0, HT1, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5
  obtain rfl := harg11.eq_unread hfs0; obtain rfl := harg12.eq_unread hfs1
  sl_exec (disch := first | sl_exact hr | sl_exact h2 | sl_exact h3 | sl_exact h4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    rw [View.read_writes_eq_canon _ _ _ (halves_cover _ _)]
    try sl_unfold_run_names
    try simp only [readAt_unread_ld, ld_row3, ld_row3', ld_dn, ld_gu, cov_gu, cov_dn, ld_x2, ld_x4]
    unfold noneA halves
    rfl
  isplitl [H7]
  · iexists _; isplitr; swap; · iexact H7
    ipureintro
    rw [View.read_writes_eq_canon _ _ _ (halves_cover _ _)]
    try sl_unfold_run_names
    try simp only [readAt_unread_ld, ld_row3, ld_row3', ld_dn, ld_gu, cov_gu, cov_dn, ld_x2, ld_x4]
    unfold noneB halves
    rfl
  isplitl [HS0]
  · iexists _; isplitr; · ipureintro; exact harg11.read_unread _
    iexact HS0
  isplitl [HS1]
  · iexists _; isplitr; · ipureintro; exact harg12.read_unread _
    iexact HS1
  isplitl [HT0]; · iexact HT0
  iexact HT1

end Cert.Kernel.Experts

end
-- ==== Proof.Experts.Body.lean ====
/- One run of the body for every point: whatever the four `if`s do, the body leaves in each result the block named
   in Block.lean, from the point's inputs, and in its scratch the point's expert's weights in bf16. -/
module

public import proofs.«01_k».proof.Proof.Experts.Run

@[expose] public section

set_option maxRecDepth 16384

noncomputable section

namespace Cert.Kernel.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [BitOps F]

local notation "𝕄" => MT nD τ sig Unit (Elt F) ℕ (UR sig nD τ) ℕ

theorem bit_or (a b : BitVec 1) : IntOp.ori a b = 1#1 ↔ a = 1#1 ∨ b = 1#1 := by revert a b; decide
theorem ne_one (x y : BitVec 32) : IntOp.cmpi .ne x y = 1#1 ↔ x ≠ y := by
  rw [IntOp.cmpi_ne]
theorem eq_one (x y : BitVec 32) : IntOp.cmpi .eq x y = 1#1 ↔ x = y := by
  rw [IntOp.cmpi_eq]

/-- The weights are cast anew at the first point and where the expert changes. -/
theorem refresh_iff (i : grid0.Coords) (e e' : BitVec 32) : refresh i e e' ↔ (i 0).val = 0 ∨ e ≠ e' := by
  have h : (i 0).val < 288 := (i 0).isLt
  refine (bit_ne _).trans ((bit_or _ _).trans (_root_.or_congr ((eq_one _ _).trans ?_) (ne_one _ _)))
  rw [← BitVec.toNat_inj]
  simp only [BitVec.toNat_ofNat]
  omega

section

variable (c : Dev nD) (i : grid0.Coords)
  (arg3 : Memref sig .tc .vmem S512x256 .i32) (harg3 : arg3.IsWhole) (arg4 : Memref sig .tc .vmem S512x256 .i32) (harg4 : arg4.IsWhole)
  (arg5 : Memref sig .tc .vmem S1x1024x2048 .f32) (harg5 : arg5.IsWhole) (arg6 : Memref sig .tc .vmem S1x1x2048 .f32) (harg6 : arg6.IsWhole)
  (arg7 : Memref sig .tc .vmem S1x1024x1024 .f32) (harg7 : arg7.IsWhole) (arg8 : Memref sig .tc .vmem S1x1x1024 .f32) (harg8 : arg8.IsWhole)
  (arg9 : Memref sig .tc .vmem S512x256 .i32) (harg9 : arg9.IsWhole) (arg10 : Memref sig .tc .vmem S512x256 .i32) (harg10 : arg10.IsWhole)
  (arg11 : Memref sig .tc .vmem S1024x2048 .bf16) (harg11 : arg11.IsWhole) (arg12 : Memref sig .tc .vmem S1024x1024 .bf16) (harg12 : arg12.IsWhole)
  (x0 x1 : Vec F S512x256 .i32) (x2 : Vec F S1x1024x2048 .f32) (x3 : Vec F S1x1x2048 .f32) (x4 : Vec F S1x1024x1024 .f32) (x5 : Vec F S1x1x1024 .f32)
  (s0 : Vec F S1024x2048 .bf16) (s1 : Vec F S1024x1024 .bf16) (tb tn : TbBuf (F := F) c beM)

/-- The body at any point, its scratch holding the point's weights already if it will not cast them anew. -/
theorem leaves
    (hs : ¬ refresh i (wordAt c beM tb (k0_off1 i) (k0_off1_inb i)) (wordAt c beM tb (k0_off2 i) (k0_off2_inb i)) → s0 = k0_pay1 x2 ∧ s1 = k0_pay2 x4) :
    Leaves c i arg3 harg3 arg4 harg4 arg5 harg5 arg6 harg6 arg7 harg7 arg8 harg8 arg9 harg9 arg10 harg10 arg11 harg11 arg12 harg12 x0 x1 x2 x3 x4 x5 s0 s1 tb tn
      (blkA (wordAt c nvM tn (k0_off1 i) (k0_off1_inb i)) x0 x1 x3 x5 (k0_pay1 x2) (k0_pay2 x4))
      (blkB (wordAt c nvM tn (k0_off1 i) (k0_off1_inb i)) x0 x1 x3 x5 (k0_pay1 x2) (k0_pay2 x4)) (k0_pay1 x2) (k0_pay2 x4) := by
  by_cases hr : refresh i (wordAt c beM tb (k0_off1 i) (k0_off1_inb i)) (wordAt c beM tb (k0_off2 i) (k0_off2_inb i))
  · rcases conds (wordAt c nvM tn (k0_off1 i) (k0_off1_inb i)) with ⟨h2, h3, h4⟩ | ⟨h2, h3, h4⟩ | ⟨h2, h3, h4⟩
    · unfold blkA blkB; rw [if_pos h2, if_pos h2]
      exact run_new_full _ _ _ _ _ _ _ _ _ _ _ _ _ _ _ _ _ _ _ _ _ _ _ _ _ _ _ _ _ _ _ _ hr h2 h3 h4
    · unfold blkA blkB; rw [if_neg h2, if_neg h2, if_pos h3, if_pos h3]
      exact run_new_half _ _ _ _ _ _ _ _ _ _ _ _ _ _ _ _ _ _ _ _ _ _ _ _ _ _ _ _ _ _ _ _ hr h2 h3 h4
    · unfold blkA blkB; rw [if_neg h2, if_neg h2, if_neg h3, if_neg h3]
      exact run_new_none _ _ _ _ _ _ _ _ _ _ _ _ _ _ _ _ _ _ _ _ _ _ _ _ _ _ _ _ _ _ _ _ hr h2 h3 h4
  · obtain ⟨rfl, rfl⟩ := hs hr
    rcases conds (wordAt c nvM tn (k0_off1 i) (k0_off1_inb i)) with ⟨h2, h3, h4⟩ | ⟨h2, h3, h4⟩ | ⟨h2, h3, h4⟩
    · unfold blkA blkB; rw [if_pos h2, if_pos h2]
      exact run_old_full _ _ _ _ _ _ _ _ _ _ _ _ _ _ _ _ _ _ _ _ _ _ _ _ _ _ _ _ _ _ _ _ hr h2 h3 h4
    · unfold blkA blkB; rw [if_neg h2, if_neg h2, if_pos h3, if_pos h3]
      exact run_old_half _ _ _ _ _ _ _ _ _ _ _ _ _ _ _ _ _ _ _ _ _ _ _ _ _ _ _ _ _ _ _ _ hr h2 h3 h4
    · unfold blkA blkB; rw [if_neg h2, if_neg h2, if_neg h3, if_neg h3]
      exact run_old_none _ _ _ _ _ _ _ _ _ _ _ _ _ _ _ _ _ _ _ _ _ _ _ _ _ _ _ _ _ _ _ _ hr h2 h3 h4

end

end Cert.Kernel.Experts

end
-- ==== Proof.Experts.Frame.lean ====
/- The frame of the experts' call, the results named: after point `t` the results' blocks are what Block.lean says of
   the point's inputs, and the scratch holds the point's expert's weights in bf16 — which the next point keeps if its
   expert is the same. -/
module

public import proofs.«01_k».proof.Proof.Experts.Body
public import Idealize.ShloMosaic.Lib.Claim

@[expose] public section

set_option maxRecDepth 16384

noncomputable section

namespace Cert.Kernel.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The blocks -/

abbrev b0 (hO : Ok m) (c : Dev nD) (t : Fin (cfgM m hO).N) : Vec F S512x256 .i32 := iblk m hO c 0 t
abbrev b1 (hO : Ok m) (c : Dev nD) (t : Fin (cfgM m hO).N) : Vec F S512x256 .i32 := iblk m hO c 1 t
abbrev b2 (hO : Ok m) (c : Dev nD) (t : Fin (cfgM m hO).N) : Vec F S1x1024x2048 .f32 := iblk m hO c 2 t
abbrev b3 (hO : Ok m) (c : Dev nD) (t : Fin (cfgM m hO).N) : Vec F S1x1x2048 .f32 := iblk m hO c 3 t
abbrev b4 (hO : Ok m) (c : Dev nD) (t : Fin (cfgM m hO).N) : Vec F S1x1024x1024 .f32 := iblk m hO c 4 t
abbrev b5 (hO : Ok m) (c : Dev nD) (t : Fin (cfgM m hO).N) : Vec F S1x1x1024 .f32 := iblk m hO c 5 t

/-- The point's expert and how many of its block's rows are real. -/
abbrev beW (c : Dev nD) (i : grid0.Coords) : BitVec 32 := wordAt c beM (tbl m 0) (k0_off1 i) (k0_off1_inb i)
abbrev nvW (c : Dev nD) (i : grid0.Coords) : BitVec 32 := wordAt c nvM (tbl m 1) (k0_off1 i) (k0_off1_inb i)

/-- What the call leaves in block `t` of each result. -/
def oA (hO : Ok m) (c : Dev nD) (t : Fin (cfgM m hO).N) : Vec F S512x256 .i32 :=
  blkA (nvW m c (grid0.coords t)) (b0 m hO c t) (b1 m hO c t) (b3 m hO c t) (b5 m hO c t) (k0_pay1 (b2 m hO c t)) (k0_pay2 (b4 m hO c t))
def oB (hO : Ok m) (c : Dev nD) (t : Fin (cfgM m hO).N) : Vec F S512x256 .i32 :=
  blkB (nvW m c (grid0.coords t)) (b0 m hO c t) (b1 m hO c t) (b3 m hO c t) (b5 m hO c t) (k0_pay1 (b2 m hO c t)) (k0_pay2 (b4 m hO c t))

/-- A table's word is known by its offset. -/
theorem wordAt_congr (c : Dev nD) (M : Memref sig .tc .smem S288 .i32) (xt : TbBuf (F := F) c M) {off off' : Fin 1 → Nat}
    (h : ∀ a, off a + S1.size a ≤ S288.size a) (h' : ∀ a, off' a + S1.size a ≤ S288.size a) (e : off = off') :
    wordAt c M xt off h = wordAt c M xt off' h' := by
  subst e; rfl

/-- The grid's one coordinate is the point. -/
theorem coords0 (t : Fin grid0.N) : (grid0.coords t 0).val = t.val := by
  have ht : t.val < 288 := Nat.lt_of_lt_of_eq t.isLt N_0
  have e0 : (grid0.coords t 0).val = t.val / 1 % 288 := Pipeline.Grid.coords_val t 0 (by decide) rfl
  omega

/-- A weight's block at an index is the array at that index in the point's expert. -/
theorem b2_apply (hO : Ok m) (c : Dev nD) (t : Fin (cfgM m hO).N) (y : S1x1024x2048.Idx) (z : S32x1024x2048.Idx)
    (h0 : (z 0).val = (beW m c (grid0.coords t)).toNat) (h1 : (z 1).val = (y 1).val) (h2 : (z 2).val = (y 2).val) :
    b2 m hO c t y = V m c main_arg3 z := by
  obtain rfl : c = 0 := Subsingleton.elim _ _
  refine congrArg (V m 0 main_arg3) (funext fun a => Fin.ext ?_)
  have hy : (y 0).val < 1 := (y 0).isLt
  fin_cases a
  · show (beW m 0 (grid0.coords t)).toNat * 1 + 1 * (y 0).val = (z 0).val; omega
  · show 0 * 1024 + 1 * (y 1).val = (z 1).val; omega
  · show 0 * 2048 + 1 * (y 2).val = (z 2).val; omega
theorem b3_apply (hO : Ok m) (c : Dev nD) (t : Fin (cfgM m hO).N) (y : S1x1x2048.Idx) (z : S32x1x2048.Idx)
    (h0 : (z 0).val = (beW m c (grid0.coords t)).toNat) (h1 : (z 1).val = (y 1).val) (h2 : (z 2).val = (y 2).val) :
    b3 m hO c t y = V m c main_v40 z := by
  obtain rfl : c = 0 := Subsingleton.elim _ _
  refine congrArg (V m 0 main_v40) (funext fun a => Fin.ext ?_)
  have hy : (y 0).val < 1 := (y 0).isLt
  fin_cases a
  · show (beW m 0 (grid0.coords t)).toNat * 1 + 1 * (y 0).val = (z 0).val; omega
  · show 0 * 1 + 1 * (y 1).val = (z 1).val; omega
  · show 0 * 2048 + 1 * (y 2).val = (z 2).val; omega
theorem b4_apply (hO : Ok m) (c : Dev nD) (t : Fin (cfgM m hO).N) (y : S1x1024x1024.Idx) (z : S32x1024x1024.Idx)
    (h0 : (z 0).val = (beW m c (grid0.coords t)).toNat) (h1 : (z 1).val = (y 1).val) (h2 : (z 2).val = (y 2).val) :
    b4 m hO c t y = V m c main_arg5 z := by
  obtain rfl : c = 0 := Subsingleton.elim _ _
  refine congrArg (V m 0 main_arg5) (funext fun a => Fin.ext ?_)
  have hy : (y 0).val < 1 := (y 0).isLt
  fin_cases a
  · show (beW m 0 (grid0.coords t)).toNat * 1 + 1 * (y 0).val = (z 0).val; omega
  · show 0 * 1024 + 1 * (y 1).val = (z 1).val; omega
  · show 0 * 1024 + 1 * (y 2).val = (z 2).val; omega
theorem b5_apply (hO : Ok m) (c : Dev nD) (t : Fin (cfgM m hO).N) (y : S1x1x1024.Idx) (z : S32x1x1024.Idx)
    (h0 : (z 0).val = (beW m c (grid0.coords t)).toNat) (h1 : (z 1).val = (y 1).val) (h2 : (z 2).val = (y 2).val) :
    b5 m hO c t y = V m c main_v41 z := by
  obtain rfl : c = 0 := Subsingleton.elim _ _
  refine congrArg (V m 0 main_v41) (funext fun a => Fin.ext ?_)
  have hy : (y 0).val < 1 := (y 0).isLt
  fin_cases a
  · show (beW m 0 (grid0.coords t)).toNat * 1 + 1 * (y 0).val = (z 0).val; omega
  · show 0 * 1 + 1 * (y 1).val = (z 1).val; omega
  · show 0 * 1024 + 1 * (y 2).val = (z 2).val; omega

/-- Every point's expert is one of the 32. -/
theorem be_lt (hO : Ok m) (c : Dev nD) (t : Fin grid0.N) : (beW m c (grid0.coords t)).toNat < 32 := by
  obtain rfl : c = 0 := Subsingleton.elim _ _
  obtain ⟨h, -⟩ := hO.1 (grid0.coords t)
  have h0 : ((beW m 0 (grid0.coords t)).toNat + 1) * 1 ≤ 32 := h 0
  omega

/-- The blocks of the weights at two points with the same expert are the same. -/
theorem b2_congr (hO : Ok m) (c : Dev nD) (t t' : Fin (cfgM m hO).N) (h : beW m c (grid0.coords t) = beW m c (grid0.coords t')) :
    b2 m hO c t = b2 m hO c t' := by
  funext y
  let z : S32x1024x2048.Idx := fun | ⟨0, _⟩ => ⟨(beW m c (grid0.coords t)).toNat, be_lt m hO c t⟩ | ⟨1, _⟩ => y 1 | ⟨2, _⟩ => y 2
  rw [b2_apply m hO c t y z rfl rfl rfl, b2_apply m hO c t' y z (congrArg BitVec.toNat h) rfl rfl]
theorem b4_congr (hO : Ok m) (c : Dev nD) (t t' : Fin (cfgM m hO).N) (h : beW m c (grid0.coords t) = beW m c (grid0.coords t')) :
    b4 m hO c t = b4 m hO c t' := by
  funext y
  let z : S32x1024x1024.Idx := fun | ⟨0, _⟩ => ⟨(beW m c (grid0.coords t)).toNat, be_lt m hO c t⟩ | ⟨1, _⟩ => y 1 | ⟨2, _⟩ => y 2
  rw [b4_apply m hO c t y z rfl rfl rfl, b4_apply m hO c t' y z (congrArg BitVec.toNat h) rfl rfl]

/-! ## The invariant -/

/-- The scratch before point `n`: at anything before the first, afterwards at the weights of the point before. -/
def scr (hO : Ok m) (c : Dev nD) : (n : ℕ) → n ≤ (cfgM m hO).N → sProp 𝕄
  | 0, _ => iprop((∃ d, owns (c : Thread nD τ) guM fullShare d) ∗ (∃ d, owns (c : Thread nD τ) dnM fullShare d))
  | n + 1, h => iprop(owns (c : Thread nD τ) guM fullShare (k0_pay1 (b2 m hO c ⟨n, h⟩)) ∗ owns (c : Thread nD τ) dnM fullShare (k0_pay2 (b4 m hO c ⟨n, h⟩)))

/-- The invariant before point `n`: the scratch, the generator's register, the tables. -/
def PhiS (hO : Ok m) (c : Dev nD) (n : ℕ) (h : n ≤ (cfgM m hO).N) : sProp 𝕄 :=
  iprop((scr m hO c n h ∗ (∃ r, prngReg c r)) ∗ Pipeline.ΦT pre0 (tbl m) c)

/-- The proof data of the pipeline. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => oA m hO c t
    | ⟨7, _⟩ => oB m hO c t
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = iblk m hO c 3 t := by dsimp only [dats]; try rfl
theorem after4 (hO : Ok m) (c : Dev nD) (t : Fin (cfgM m hO).N) : (dats m hO 0 c).after 4 t = iblk m hO c 4 t := by dsimp only [dats]; try rfl
theorem after5 (hO : Ok m) (c : Dev nD) (t : Fin (cfgM m hO).N) : (dats m hO 0 c).after 5 t = iblk m hO c 5 t := by dsimp only [dats]; try rfl
theorem after6 (hO : Ok m) (c : Dev nD) (t : Fin (cfgM m hO).N) : (dats m hO 0 c).after 6 t = oA m hO c t := by dsimp only [dats]; try rfl
theorem after7 (hO : Ok m) (c : Dev nD) (t : Fin (cfgM m hO).N) : (dats m hO 0 c).after 7 t = oB m hO c t := by dsimp only [dats]; try rfl

theorem before0 (hO : Ok m) (c : Dev nD) (t : Fin (cfgM m hO).N) (d) : (dats m hO 0 c).before 0 t d = iblk m hO c 0 t :=
  (before_in m hO (dats m hO 0 c) (A_eq m hO c)).1 (after0 m hO c) t d
theorem before1 (hO : Ok m) (c : Dev nD) (t : Fin (cfgM m hO).N) (d) : (dats m hO 0 c).before 1 t d = iblk m hO c 1 t :=
  (before_in m hO (dats m hO 0 c) (A_eq m hO c)).2.1 (after1 m hO c) t d
theorem before2 (hO : Ok m) (c : Dev nD) (t : Fin (cfgM m hO).N) (d) : (dats m hO 0 c).before 2 t d = iblk m hO c 2 t :=
  (before_in m hO (dats m hO 0 c) (A_eq m hO c)).2.2.1 (after2 m hO c) t d
theorem before3 (hO : Ok m) (c : Dev nD) (t : Fin (cfgM m hO).N) (d) : (dats m hO 0 c).before 3 t d = iblk m hO c 3 t :=
  (before_in m hO (dats m hO 0 c) (A_eq m hO c)).2.2.2.1 (after3 m hO c) t d
theorem before4 (hO : Ok m) (c : Dev nD) (t : Fin (cfgM m hO).N) (d) : (dats m hO 0 c).before 4 t d = iblk m hO c 4 t :=
  (before_in m hO (dats m hO 0 c) (A_eq m hO c)).2.2.2.2.1 (after4 m hO c) t d
theorem before5 (hO : Ok m) (c : Dev nD) (t : Fin (cfgM m hO).N) (d) : (dats m hO 0 c).before 5 t d = iblk m hO c 5 t :=
  (before_in m hO (dats m hO 0 c) (A_eq m hO c)).2.2.2.2.2 (after5 m hO c) t d

theorem Phi_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t
theorem Phi_succ (hO : Ok m) (c : Dev nD) (t : Fin (cfgM m hO).N) :
    (dats m hO 0 c).Φ t.succ = PhiS m hO c (t.val + 1) t.isLt := by
  dsimp only [dats]; rfl

/-- A point after the first that casts nothing anew has the expert of the point before, whose weights the scratch
    holds. -/
theorem kept (hO : Ok m) (c : Dev nD) (n : ℕ) (h : n + 1 < (cfgM m hO).N)
    (hr : ¬ refresh (grid0.coords ⟨n + 1, h⟩) (beW m c (grid0.coords ⟨n + 1, h⟩)) (wordAt c beM (tbl m 0) (k0_off2 (grid0.coords ⟨n + 1, h⟩)) (k0_off2_inb (grid0.coords ⟨n + 1, h⟩)))) :
    k0_pay1 (b2 m hO c ⟨n, Nat.lt_of_succ_lt h⟩) = k0_pay1 (b2 m hO c ⟨n + 1, h⟩) ∧ k0_pay2 (b4 m hO c ⟨n, Nat.lt_of_succ_lt h⟩) = k0_pay2 (b4 m hO c ⟨n + 1, h⟩) := by
  have hN : n + 1 < 288 := lt_of_lt_of_eq h N_0
  have e : beW m c (grid0.coords ⟨n, Nat.lt_of_succ_lt h⟩) = beW m c (grid0.coords ⟨n + 1, h⟩) := by
    have hne := (not_or.mp (fun hh => hr ((refresh_iff _ _ _).mpr hh))).2
    rw [ne_eq, not_not] at hne
    rw [hne]
    refine wordAt_congr c beM (tbl m 0) _ _ ?_
    have c0 := coords0 ⟨n, Nat.lt_of_succ_lt h⟩
    have c1 := coords0 ⟨n + 1, h⟩
    unfold k0_off1 k0_off2
    simp only [Scalar.indexCast, Scalar.subi, Scalar.maxsi, IntOp.subi, IntOp.maxsi, c0, c1]
    have e1 : BitVec.ofNat 32 (n + 1) - 1#32 = BitVec.ofNat 32 n := by
      rw [← BitVec.toNat_inj, BitVec.toNat_sub]; simp only [BitVec.toNat_ofNat]; omega
    rw [e1]
    split
    · rfl
    · rename_i hs
      have hn0 : n = 0 := by
        by_contra hne0
        refine hs (BitVec.slt_iff_toInt_lt.mpr ?_)
        rw [BitVec.toInt_eq_toNat_cond, BitVec.toInt_eq_toNat_cond]
        simp only [BitVec.toNat_ofNat]
        have : n % 2 ^ 32 = n := Nat.mod_eq_of_lt (by omega)
        rw [this, if_pos (by omega : 2 * n < 2 ^ 32), if_pos (by decide : 2 * (0 % 2 ^ 32) < 2 ^ 32)]
        simp only [Nat.zero_mod]
        omega
      subst hn0; rfl
  rw [b2_congr m hO c _ _ e, b4_congr m hO c _ _ e]
  exact ⟨rfl, rfl⟩

/-- The scratch before a point, at contents that are the point's weights if the point casts none. -/
theorem scr_elim (hO : Ok m) (c : Dev nD) (t : Fin (cfgM m hO).N) :
    scr m hO c t.val (Nat.le_of_lt t.isLt) ⊢ iprop(∃ s0 s1, owns (c : Thread nD τ) guM fullShare s0 ∗ owns (c : Thread nD τ) dnM fullShare s1
      ∗ ⌜¬ refresh (grid0.coords t) (beW m c (grid0.coords t)) (wordAt c beM (tbl m 0) (k0_off2 (grid0.coords t)) (k0_off2_inb (grid0.coords t))) →
          s0 = k0_pay1 (b2 m hO c t) ∧ s1 = k0_pay2 (b4 m hO c t)⌝) := by
  obtain ⟨n, hn⟩ := t
  cases n with
  | zero =>
    unfold scr
    iintro ⟨⟨%d0, H0⟩, ⟨%d1, H1⟩⟩
    iexists d0, d1
    isplitl [H0]; · iexact H0
    isplitl [H1]; · iexact H1
    ipureintro
    intro hr
    exact absurd ((refresh_iff _ _ _).mpr (.inl (coords0 ⟨0, hn⟩))) hr
  | succ n =>
    unfold scr
    iintro ⟨H0, H1⟩
    iexists _, _
    isplitl [H0]; · iexact H0
    isplitl [H1]; · iexact H1
    ipureintro
    exact kept m hO c n hn

/-! ## The body obligation -/

/-- The body's precondition at point `t`, window by window, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d))
    ∗ (∃ d, owns (c : Thread nD τ) (ms6 m hO t) fullShare ((dats m hO 0 c).before 6 t d))
    ∗ (∃ d, owns (c : Thread nD τ) (ms7 m hO t) fullShare ((dats m hO 0 c).before 7 t d)))

/-- and its postcondition. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t)
    ∗ owns (c : Thread nD τ) (ms5 m hO t) fullShare ((dats m hO 0 c).after 5 t)
    ∗ (dats m hO 0 c).leavesExact 6 t
    ∗ (dats m hO 0 c).leavesExact 7 t)

/-- The results' windows are written back at every point, so each is left at the named block. -/
theorem leaves6 (hO : Ok m) (c : Dev nD) (t : Fin (cfgM m hO).N) : (dats m hO 0 c).leavesExact 6 t = owns (c : Thread nD τ) (ms6 m hO t) fullShare (oA m hO c t) := by
  have h := flush6 (adm m hO) t
  unfold Dat.leavesExact
  rw [h]
  cases (cfgM m hO).idle 6 ((cfgM m hO).grid.coords t) <;> rfl
theorem leaves7 (hO : Ok m) (c : Dev nD) (t : Fin (cfgM m hO).N) : (dats m hO 0 c).leavesExact 7 t = owns (c : Thread nD τ) (ms7 m hO t) fullShare (oB m hO c t) := by
  have h := flush7 (adm m hO) t
  unfold Dat.leavesExact
  rw [h]
  cases (cfgM m hO).idle 7 ((cfgM m hO).grid.coords t) <;> rfl

set_option maxHeartbeats 1600000 in
/-- The body at any point. -/
theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before0, before1, before2, before3, before4, before5]
  rw [Phi_castSucc, Phi_succ, leaves6, leaves7,
    show (dats m hO 0 c).owesAt () t.succ = (dats m hO 0 c).owesAt () t.castSucc from rfl,
    after0, after1, after2, after3, after4, after5]
  unfold PhiS
  rw [PhiT_eq]
  refine (Laws.sep_mono (Laws.sep_mono (Laws.sep_mono (scr_elim m hO c t) .rfl) .rfl) .rfl).trans ?_
  iintro ⟨⟨⟨⟨%s0, %s1, HS0, HS1, %hs⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (leaves c (grid0.coords t) _ _ _ _ _ _ _ _ _ _ _ _ _ _ _ _ _ _ _ _ (b0 m hO c t) (b1 m hO c t) (b2 m hO c t) (b3 m hO c t) (b4 m hO c t) (b5 m hO c t) s0 s1 (tbl m 0) (tbl m 1) hs Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  isplitl [HT0]; · iexact HT0
  isplitl [HT1]; · iexact HT1
  iintro ⟨H0, H1, H2, H3, H4, H5, H6, H7, HS0, HS1, HT0, HT1⟩
  isplitl [HS0 HS1 Hg HT0 HT1]
  · isplitl [HS0 HS1 Hg]
    · isplitl [HS0 HS1]
      · unfold scr
        isplitl [HS0]
        · iexact HS0
        iexact HS1
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row is the body. -/
theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The launch -/

theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl]
  unfold PhiS scr
  rw [PhiA_eq]

theorem hout (hO : Ok m) (c : Dev nD) : (dats m hO 0 c).Φ (Fin.last (cfgM m hO).N) ⊢ Pipeline.ΦA spec0 c := by
  rw [show (dats m hO 0 c).Φ (Fin.last (cfgM m hO).N) = PhiS m hO c 288 (le_of_eq (N_0.symm)) from rfl, PhiA_eq]
  unfold PhiS scr
  iintro ⟨⟨⟨H0, H1⟩, Hg⟩, -⟩
  isplitl [H0 H1]
  · isplitl [H0]
    · iexists _; iexact H0
    iexists _; iexact H1
  iexact Hg

set_option backward.isDefEq.respectTransparency.types false in
/-- Every execution terminates, each result at what the library computes from the blocks named, the counters at zero. -/
theorem run_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hin := hin m hO) (hout := hout m hO)

end Cert.Kernel.Experts

end
-- ==== Proof.Experts.Launch.lean ====
/- The experts' call as it is claimed: it runs when every block's expert is one of the 32, its arguments end unchanged, and each result
   ends, row block by row block, at the named block. -/
module

public import proofs.«01_k».proof.Proof.Experts.Frame

@[expose] public section

set_option maxRecDepth 16384

noncomputable section

namespace Cert.Kernel.Experts

open Idealize.ShloMosaic Idealize.ShloMosaic.TcCoe Idealize.SL.Sem
open Idealize.ShloMosaic.Pipeline (Dat)
open Cert.Kernel.Gen

variable {F : FTy → Type} [BitOps F]
variable (m : (ℓ : Loc nD τ sig) → Buf (Elt F) ℓ) (ρ : Dev nD → PrngReg)

/-! ## The tables -/

/-- A point's expert is the table's word at the point; -/
theorem beW_eq (c : Dev nD) (i : grid0.Coords) (j : S288.Idx) (h : (j 0).val = (i 0).val) : beW m c i = V m c main_v22 j := by
  obtain rfl : c = 0 := Subsingleton.elim _ _
  refine congrArg (V m 0 main_v22) (funext fun a => Fin.ext ?_)
  fin_cases a
  show k0_off1 i 0 + 1 * 0 = (j 0).val
  have e : k0_off1 i 0 = (i 0).val := congrFun (k0_off1_eq i) 0
  omega
/-- so is the number of its real rows. -/
theorem nvW_eq (c : Dev nD) (i : grid0.Coords) (j : S288.Idx) (h : (j 0).val = (i 0).val) : nvW m c i = V m c main_v39 j := by
  obtain rfl : c = 0 := Subsingleton.elim _ _
  refine congrArg (V m 0 main_v39) (funext fun a => Fin.ext ?_)
  fin_cases a
  show k0_off1 i 0 + 1 * 0 = (j 0).val
  have e : k0_off1 i 0 = (i 0).val := congrFun (k0_off1_eq i) 0
  omega

/-- When every expert is one of the 32, every block the tables name lies inside its array. -/
theorem ok_of_lt (h : ∀ j : S288.Idx, (V m (0 : Dev nD) main_v22 j : BitVec 32).toNat < 32) : Ok m := by
  have hb : ∀ i : grid0.Coords, (beW m 0 i).toNat < 32 := fun i => by
    rw [beW_eq m 0 i (fun a => ⟨(i 0).val, by fin_cases a; exact (i 0).isLt⟩) rfl]; exact h _
  refine ⟨fun i => ⟨fun a => ?_, .inl rfl⟩, fun i => ⟨fun a => ?_, .inl rfl⟩, fun i => ⟨fun a => ?_, .inl rfl⟩, fun i => ⟨fun a => ?_, .inl rfl⟩⟩
  all_goals
    have hi := hb i
    fin_cases a
    · show ((beW m 0 i).toNat + 1) * 1 ≤ 32; omega
    all_goals exact Nat.le_refl _

/-! ## The rows a point reads -/

/-- Row `r` of the block point `t` reads of the first half of the rows is row `512·t + r`; -/
theorem b0_apply (hO : Ok m) (c : Dev nD) (t : Fin (cfgM m hO).N) (y : S512x256.Idx) (z : S147456x256.Idx)
    (h0 : (z 0).val = 512 * t.val + (y 0).val) (h1 : (z 1).val = (y 1).val) : b0 m hO c t y = V m c main_arg1 z := by
  refine congrArg (V m c main_arg1) (funext fun a => Fin.ext ?_)
  have h3 : t.val < 288 := Nat.lt_of_lt_of_eq t.isLt N_0
  fin_cases a
  · show (BitVec.ofNat 32 (grid0.coords t 0).val).toNat * 512 + 1 * (y 0).val = (z 0).val
    rw [coords0, BitVec.toNat_ofNat]; omega
  · show 0 * 256 + 1 * (y 1).val = (z 1).val; omega
/-- likewise of the second. -/
theorem b1_apply (hO : Ok m) (c : Dev nD) (t : Fin (cfgM m hO).N) (y : S512x256.Idx) (z : S147456x256.Idx)
    (h0 : (z 0).val = 512 * t.val + (y 0).val) (h1 : (z 1).val = (y 1).val) : b1 m hO c t y = V m c main_arg2 z := by
  refine congrArg (V m c main_arg2) (funext fun a => Fin.ext ?_)
  have h3 : t.val < 288 := Nat.lt_of_lt_of_eq t.isLt N_0
  fin_cases a
  · show (BitVec.ofNat 32 (grid0.coords t 0).val).toNat * 512 + 1 * (y 0).val = (z 0).val
    rw [coords0, BitVec.toNat_ofNat]; omega
  · show 0 * 256 + 1 * (y 1).val = (z 1).val; omega

/-! ## The results, block by block -/

/-- Two blocks of a result share no row. -/
theorem idx_inj6 (hO : Ok m) (t t' : Fin (cfgM m hO).N) (h : ((cfgM m hO).win 6).index t = ((cfgM m hO).win 6).index t') : t = t' := by
  have e : (BitVec.ofNat 32 (grid0.coords t 0).val).toNat = (BitVec.ofNat 32 (grid0.coords t' 0).val).toNat := congrFun h (0 : Fin 2)
  rw [coords0, coords0, BitVec.toNat_ofNat, BitVec.toNat_ofNat] at e
  have h1 : t.val < 288 := Nat.lt_of_lt_of_eq t.isLt N_0
  have h2 : t'.val < 288 := Nat.lt_of_lt_of_eq t'.isLt N_0
  exact Fin.ext (by omega)
theorem idx_inj7 (hO : Ok m) (t t' : Fin (cfgM m hO).N) (h : ((cfgM m hO).win 7).index t = ((cfgM m hO).win 7).index t') : t = t' := by
  have e : (BitVec.ofNat 32 (grid0.coords t 0).val).toNat = (BitVec.ofNat 32 (grid0.coords t' 0).val).toNat := congrFun h (0 : Fin 2)
  rw [coords0, coords0, BitVec.toNat_ofNat, BitVec.toNat_ofNat] at e
  have h1 : t.val < 288 := Nat.lt_of_lt_of_eq t.isLt N_0
  have h2 : t'.val < 288 := Nat.lt_of_lt_of_eq t'.isLt N_0
  exact Fin.ext (by omega)

/-- Row `512·t + r` of the first result ends at row `r` of block `t`; -/
theorem arr6_at (hO : Ok m) (c : Dev nD) (t : Fin (cfgM m hO).N) (y : S512x256.Idx) (z : S147456x256.Idx)
    (h0 : (z 0).val = 512 * t.val + (y 0).val) (h1 : (z 1).val = (y 1).val) :
    (dats m hO 0 c).arrAt 6 (cfgM m hO).N z = oA m hO c t y := by
  have e := (dats m hO 0 c).arrAt_emb_eq_flushed 6 (fun t t' _ _ hne => ((cfgM m hO).win 6).disjoint_blk fun h => hne (idx_inj6 m hO t t' h)) t (flush6 (adm m hO) t) y
  have hz : (((cfgM m hO).win 6).blk t).view.emb y = z := by
    refine funext fun a => Fin.ext ?_
    have h3 : t.val < 288 := Nat.lt_of_lt_of_eq t.isLt N_0
    fin_cases a
    · show (BitVec.ofNat 32 (grid0.coords t 0).val).toNat * 512 + 1 * (y 0).val = (z 0).val
      rw [coords0, BitVec.toNat_ofNat]; omega
    · show 0 * 256 + 1 * (y 1).val = (z 1).val; omega
  have e2 : (dats m hO 0 c).flushed 6 t y = oA m hO c t y := by
    show ((cfgM m hO).win 6).cut (grid0.coords t) ((dats m hO 0 c).after 6 t) y = _
    rw [after6]; rfl
  rw [hz, e2] at e
  exact e.trans (cast_eq _ _)
/-- likewise the second. -/
theorem arr7_at (hO : Ok m) (c : Dev nD) (t : Fin (cfgM m hO).N) (y : S512x256.Idx) (z : S147456x256.Idx)
    (h0 : (z 0).val = 512 * t.val + (y 0).val) (h1 : (z 1).val = (y 1).val) :
    (dats m hO 0 c).arrAt 7 (cfgM m hO).N z = oB m hO c t y := by
  have e := (dats m hO 0 c).arrAt_emb_eq_flushed 7 (fun t t' _ _ hne => ((cfgM m hO).win 7).disjoint_blk fun h => hne (idx_inj7 m hO t t' h)) t (flush7 (adm m hO) t) y
  have hz : (((cfgM m hO).win 7).blk t).view.emb y = z := by
    refine funext fun a => Fin.ext ?_
    have h3 : t.val < 288 := Nat.lt_of_lt_of_eq t.isLt N_0
    fin_cases a
    · show (BitVec.ofNat 32 (grid0.coords t 0).val).toNat * 512 + 1 * (y 0).val = (z 0).val
      rw [coords0, BitVec.toNat_ofNat]; omega
    · show 0 * 256 + 1 * (y 1).val = (z 1).val; omega
  have e2 : (dats m hO 0 c).flushed 7 t y = oB m hO c t y := by
    show ((cfgM m hO).win 7).cut (grid0.coords t) ((dats m hO 0 c).after 7 t) y = _
    rw [after7]; rfl
  rw [hz, e2] at e
  exact e.trans (cast_eq _ _)

/-! ## The run -/

/-- The results after the run, whole. -/
abbrev finA (hO : Ok m) (c : Dev nD) : S147456x256.Idx → Elt F .i32 := (dats m hO 0 c).arrAt 6 (cfgM m hO).N
abbrev finB (hO : Ok m) (c : Dev nD) : S147456x256.Idx → Elt F .i32 := (dats m hO 0 c).arrAt 7 (cfgM m hO).N

/-- The run with the results named, the arguments unchanged. -/
theorem run_named (hO : Ok m) : θ_run defs (onTc (τ := τ) (main (F := F))) ⟨m, fun _ => 0, ρ⟩ (fun r => ∀ c : Dev nD,
      r.2.mem ((c.tc : Thread nD τ).loc main_v42_0) = finA m hO c
      ∧ r.2.mem ((c.tc : Thread nD τ).loc main_v42_1) = finB m hO c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r hr c => by
    have h := hr.1
    have rest : ∀ b (hr : b ∈ Pipeline.restRefs sig spec0) (hb : b ∈ [main_arg0, main_arg1, main_arg2, main_arg3, main_arg4, main_arg5, main_arg6]),
        r.2.mem ((c.tc : Thread nD τ).loc b) = m ((c.tc : Thread nD τ).loc b) := fun b hr hb => ((h c).2 b hr).trans (V_arg m c b hb)
    exact ⟨(h c).1 6, (h c).1 7, rest main_arg0 (Pipeline.mem_restRefs_of main_arg0 (by decide) (by decide)) (by decide),
      ((h c).1 0).trans (((dats m hO 0 c).arrAt_in 0 rfl _).trans ((A_eq m hO c 0).trans (V_arg m c main_arg1 (by decide)))),
      ((h c).1 1).trans (((dats m hO 0 c).arrAt_in 1 rfl _).trans ((A_eq m hO c 1).trans (V_arg m c main_arg2 (by decide)))),
      ((h c).1 2).trans (((dats m hO 0 c).arrAt_in 2 rfl _).trans ((A_eq m hO c 2).trans (V_arg m c main_arg3 (by decide)))),
      rest main_arg4 (Pipeline.mem_restRefs_of main_arg4 (by decide) (by decide)) (by decide),
      ((h c).1 4).trans (((dats m hO 0 c).arrAt_in 4 rfl _).trans ((A_eq m hO c 4).trans (V_arg m c main_arg5 (by decide)))),
      rest main_arg6 (Pipeline.mem_restRefs_of main_arg6 (by decide) (by decide)) (by decide)⟩) (run_quiescent m ρ hO)

/-- The frame: the run ends, its arguments unchanged, every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and ((θ_run defs _ _).mono (fun r h c => (h c).2.2) (run_named m ρ hO)) ((θ_run defs _ _).mono (fun _ h => h.2) (run_quiescent m ρ hO))

end Cert.Kernel.Experts

end
-- ==== Proof.Experts.Pay.lean ====
/- What the reference stores in half a block of 256 rows is what the experts' call stores there: the same operations
   of the same inputs, which the call takes with the weights cast already. -/
module

public import proofs.«01_k».proof.Proof.Experts.Block
public import proofs.«01_k».proof.Proof.Gen.Reference.Skeleton

@[expose] public section

set_option maxRecDepth 16384

noncomputable section

namespace Cert.Kernel.Experts

open Idealize.ShloMosaic Idealize.ShloMosaic.TcCoe
open Cert.Kernel.Gen

variable {F : FTy → Type} [BitOps F]

variable (nv : BitVec 32) (xa xb : Vec F S256x256 .i32) (x2 : Vec F S1x1024x2048 .f32) (x3 : Vec F S1x1x2048 .f32)
  (x4 : Vec F S1x1024x1024 .f32) (x5 : Vec F S1x1x1024 .f32)

/-- The reference's lower half of a block of each result, -/
abbrev refLoA : Vec F S256x256 .i32 :=
  Cert.Reference.Gen.k0_pay9 nv (Cert.Reference.Gen.k0_pay5 nv xa xb x3 x2) (Cert.Reference.Gen.k0_pay6 nv xa xb x3 x2) Cert.Reference.Gen.k0_pay7 x5 x4
abbrev refLoB : Vec F S256x256 .i32 :=
  Cert.Reference.Gen.k0_pay10 nv (Cert.Reference.Gen.k0_pay5 nv xa xb x3 x2) (Cert.Reference.Gen.k0_pay6 nv xa xb x3 x2) Cert.Reference.Gen.k0_pay7 x5 x4
/-- and its upper. -/
abbrev refHiA : Vec F S256x256 .i32 := Cert.Reference.Gen.k0_pay2 nv (Cert.Reference.Gen.k0_pay11 nv xa xb x3 x2) x5 x4
abbrev refHiB : Vec F S256x256 .i32 := Cert.Reference.Gen.k0_pay3 nv (Cert.Reference.Gen.k0_pay11 nv xa xb x3 x2) x5 x4

/-- The cast weights, less the cast to their own shape. -/
theorem gu_eq : k0_pay1 x2 = truncf .bf16 (shapeCast S1024x2048 x2 shapeCasts_S1x1024x2048_S1024x2048) bitsLt_bf16_f32 := by
  unfold k0_pay1; exact shapeCast_self _ _
theorem dn_eq : k0_pay2 x4 = truncf .bf16 (shapeCast S1024x1024 x4 shapeCasts_S1x1024x1024_S1024x1024) bitsLt_bf16_f32 := by
  unfold k0_pay2; exact shapeCast_self _ _

/-- The lower half packed: the call's words where a row is real, zero otherwise. -/
theorem pack_lo :
    Cert.Reference.Gen.k0_pay8 nv (Cert.Reference.Gen.k0_pay5 nv xa xb x3 x2) (Cert.Reference.Gen.k0_pay6 nv xa xb x3 x2) Cert.Reference.Gen.k0_pay7 x5 x4
      = Scalar.select (Scalar.cmpi .sgt nv 0#32)
          (k0_pay17 (k0_pay13 nv xa xb x3 (k0_pay1 x2)) (k0_pay14 nv xa xb x3 (k0_pay1 x2)) (k0_pay15 nv xa xb x3 (k0_pay1 x2)) k0_pay16 x5 (k0_pay2 x4))
          (broadcast S256x512 0#32) := by
  rw [gu_eq, dn_eq]; rfl
/-- The same as the half block's run has it. -/
theorem pack_lo' :
    Cert.Reference.Gen.k0_pay8 nv (Cert.Reference.Gen.k0_pay5 nv xa xb x3 x2) (Cert.Reference.Gen.k0_pay6 nv xa xb x3 x2) Cert.Reference.Gen.k0_pay7 x5 x4
      = Scalar.select (Scalar.cmpi .sgt nv 0#32)
          (k0_pay3 (k0_pay26 nv xa xb x3 (k0_pay1 x2)) (k0_pay27 nv xa xb x3 (k0_pay1 x2)) (k0_pay28 nv xa xb x3 (k0_pay1 x2)) k0_pay29 x5 (k0_pay2 x4))
          (broadcast S256x512 0#32) := by
  rw [gu_eq, dn_eq]; rfl
/-- The upper half packed. -/
theorem pack_hi :
    Cert.Reference.Gen.k0_pay1 nv (Cert.Reference.Gen.k0_pay11 nv xa xb x3 x2) x5 x4
      = Scalar.select (Scalar.cmpi .sgt nv 256#32)
          (k0_pay22 (k0_pay20 nv xa xb) (k0_pay21 x3) (k0_pay1 x2) (constant S256x2048 .f32 0x00000000#32) x5 (k0_pay2 x4))
          (broadcast S256x512 0#32) := by
  rw [gu_eq, dn_eq]; rfl

theorem sel_pos {α : Type} {b : BitVec 1} (h : b = 1#1) (x y : α) : Scalar.select b x y = x := by subst h; rfl
theorem sel_neg {α : Type} {b : BitVec 1} (h : ¬ b = 1#1) (x y : α) : Scalar.select b x y = y := by
  obtain rfl : b = 0#1 := by revert b; decide
  rfl

theorem gt0 : Scalar.cmpi .sgt nv 0#32 = 1#1 ↔ 0 < nv.toInt := sgt_one nv 0#32
theorem gt256 : Scalar.cmpi .sgt nv 256#32 = 1#1 ↔ 256 < nv.toInt := sgt_one nv 256#32

/-- The call's block of the first result, in its lower half, is the reference's; -/
theorem blkA_lo (x0 x1 : Vec F S512x256 .i32) (x : S256x256.Idx) :
    blkA nv x0 x1 x3 x5 (k0_pay1 x2) (k0_pay2 x4) (loR.emb x) = refLoA nv (lo x0) (lo x1) x2 x3 x4 x5 x := by
  unfold blkA refLoA Cert.Reference.Gen.k0_pay9
  by_cases h2 : k0_cond2 nv = 1#1
  · rw [if_pos h2, pack_lo, sel_pos ((gt0 nv).mpr (by have := (cond2_iff nv).mp h2; omega))]
    exact lo_halves _ _ x
  rw [if_neg h2]
  by_cases h3 : k0_cond3 nv = 1#1
  · rw [if_pos h3, pack_lo', sel_pos ((gt0 nv).mpr ((cond3_iff nv).mp h3).1)]
    exact lo_halves _ _ x
  rw [if_neg h3, pack_lo, sel_neg (fun h => by
    have a := (cond2_iff nv).not.mp h2; have b := (cond3_iff nv).not.mp h3; have c := (gt0 nv).mp h; omega)]
  exact lo_halves _ _ x
theorem blkB_lo (x0 x1 : Vec F S512x256 .i32) (x : S256x256.Idx) :
    blkB nv x0 x1 x3 x5 (k0_pay1 x2) (k0_pay2 x4) (loR.emb x) = refLoB nv (lo x0) (lo x1) x2 x3 x4 x5 x := by
  unfold blkB refLoB Cert.Reference.Gen.k0_pay10
  by_cases h2 : k0_cond2 nv = 1#1
  · rw [if_pos h2, pack_lo, sel_pos ((gt0 nv).mpr (by have := (cond2_iff nv).mp h2; omega))]
    exact lo_halves _ _ x
  rw [if_neg h2]
  by_cases h3 : k0_cond3 nv = 1#1
  · rw [if_pos h3, pack_lo', sel_pos ((gt0 nv).mpr ((cond3_iff nv).mp h3).1)]
    exact lo_halves _ _ x
  rw [if_neg h3, pack_lo, sel_neg (fun h => by
    have a := (cond2_iff nv).not.mp h2; have b := (cond3_iff nv).not.mp h3; have c := (gt0 nv).mp h; omega)]
  exact lo_halves _ _ x
/-- in its upper half too. -/
theorem blkA_hi (x0 x1 : Vec F S512x256 .i32) (x : S256x256.Idx) :
    blkA nv x0 x1 x3 x5 (k0_pay1 x2) (k0_pay2 x4) (hiR.emb x) = refHiA nv (hi x0) (hi x1) x2 x3 x4 x5 x := by
  unfold blkA refHiA Cert.Reference.Gen.k0_pay2
  rw [pack_hi]
  by_cases h2 : k0_cond2 nv = 1#1
  · rw [if_pos h2, sel_pos ((gt256 nv).mpr ((cond2_iff nv).mp h2))]
    exact hi_halves _ _ x
  rw [if_neg h2, sel_neg (fun h => h2 ((cond2_iff nv).mpr ((gt256 nv).mp h)))]
  by_cases h3 : k0_cond3 nv = 1#1
  · rw [if_pos h3]; exact hi_halves _ _ x
  · rw [if_neg h3]; exact hi_halves _ _ x
theorem blkB_hi (x0 x1 : Vec F S512x256 .i32) (x : S256x256.Idx) :
    blkB nv x0 x1 x3 x5 (k0_pay1 x2) (k0_pay2 x4) (hiR.emb x) = refHiB nv (hi x0) (hi x1) x2 x3 x4 x5 x := by
  unfold blkB refHiB Cert.Reference.Gen.k0_pay3
  rw [pack_hi]
  by_cases h2 : k0_cond2 nv = 1#1
  · rw [if_pos h2, sel_pos ((gt256 nv).mpr ((cond2_iff nv).mp h2))]
    exact hi_halves _ _ x
  rw [if_neg h2, sel_neg (fun h => h2 ((cond2_iff nv).mpr ((gt256 nv).mp h)))]
  by_cases h3 : k0_cond3 nv = 1#1
  · rw [if_pos h3]; exact hi_halves _ _ x
  · rw [if_neg h3]; exact hi_halves _ _ x

end Cert.Kernel.Experts

end
-- ==== Proof.Experts.RefTrip.lean ====
/- One trip of the reference's loop, and all of them: what is stored into each result agrees with any two arrays
   whose rows of the trip's block are the trip's values. -/
module

public import proofs.«01_k».proof.Proof.Gen.Reference.Value
public import proofs.«01_k».proof.Proof.Experts.Pay
public import Idealize.ShloMosaic.Lib.Pipeline.Value
public import Idealize.ShloMosaic.Lib.Tactic.Stretches

@[expose] public section

noncomputable section

namespace Cert.Reference.Trip

open Cert.Reference Cert.Reference.Gen Idealize.ShloMosaic Idealize.ShloMosaic.TcCoe Idealize.SL.Sem

variable {F : FTy → Type} [BitOps F]

variable (c : Dev nD) (arg0 : Memref sig .tc .smem S288 .i32) (harg0 : arg0.IsWhole) (arg1 : Memref sig .tc .smem S288 .i32) (harg1 : arg1.IsWhole)
  (arg2 : Memref sig .tc .vmem S147456x256 .i32) (harg2 : arg2.IsWhole) (arg3 : Memref sig .tc .vmem S147456x256 .i32) (harg3 : arg3.IsWhole)
  (arg4 : Memref sig .tc .vmem S32x1024x2048 .f32) (harg4 : arg4.IsWhole) (arg5 : Memref sig .tc .vmem S32x1x2048 .f32) (harg5 : arg5.IsWhole)
  (arg6 : Memref sig .tc .vmem S32x1024x1024 .f32) (harg6 : arg6.IsWhole) (arg7 : Memref sig .tc .vmem S32x1x1024 .f32) (harg7 : arg7.IsWhole)
  (arg8 : Memref sig .tc .vmem S147456x256 .i32) (harg8 : arg8.IsWhole) (arg9 : Memref sig .tc .vmem S147456x256 .i32) (harg9 : arg9.IsWhole)
  (X0 : BufTy.Contents (Elt F) arg0.view.ty) (X1 : BufTy.Contents (Elt F) arg1.view.ty) (X2 : BufTy.Contents (Elt F) arg2.view.ty)
  (X3 : BufTy.Contents (Elt F) arg3.view.ty) (X4 : BufTy.Contents (Elt F) arg4.view.ty) (X5 : BufTy.Contents (Elt F) arg5.view.ty)
  (X6 : BufTy.Contents (Elt F) arg6.view.ty) (X7 : BufTy.Contents (Elt F) arg7.view.ty)
  (GA GB : S147456x256.Idx → Elt F .i32)

/-- The word of a table that trip `k` reads. -/
abbrev wordAt (M : Memref sig .tc .smem S288 .i32) (X : BufTy.Contents (Elt F) M.view.ty) (k : Fin k0_t1_loop.trips) : BitVec 32 :=
  M.view.readAt (Elt F) (Rect.unit (s := S288) (k0_off1 k) S1.size (k0_off1_inb k)).toLoadRect X (Shape.Idx.first (numel1_S1.symm ▸ Nat.one_pos))

/-- The rows of a block's lower and upper half, in the whole array. -/
abbrev rowsLo (k : Fin k0_t1_loop.trips) : Rect S147456x256 := Rect.unit (s := S147456x256) (k0_off7 k 0#32) S256x256.size (k0_off7_inb k 0)
abbrev rowsHi (k : Fin k0_t1_loop.trips) : Rect S147456x256 := Rect.unit (s := S147456x256) (k0_off7 k 256#32) S256x256.size (k0_off7_inb k 1)
/-- The lower half's as the loads spell them. -/
abbrev rowsLd (k : Fin k0_t1_loop.trips) : Rect S147456x256 := Rect.unit (s := S147456x256) (k0_off2 k) S256x256.size (k0_off2_inb k)

/-- The pieces agree with the array `G`: each stores what `G` has under it. -/
def Agree (G : S147456x256.Idx → Elt F .i32) (L : List (View.Piece (Elt F) S147456x256 .i32)) : Prop := ∀ p ∈ L, ∀ x, p.2 x = G (p.1.emb x)

open Cert.Kernel.Experts (refLoA refLoB refHiA refHiB)

set_option maxHeartbeats 1600000 in
/-- One trip: its four stores agree with `GA` and `GB` when these hold the trip's values in its rows. -/
theorem trip_agree (k : Fin k0_t1_loop.trips) (hw : k0_chk1 (wordAt arg0 X0 k)) (x2 : Vec F S1x1024x2048 .f32) (x3 : Vec F S1x1x2048 .f32) (x4 : Vec F S1x1024x1024 .f32) (x5 : Vec F S1x1x1024 .f32)
    (h2 : arg4.view.readAt (Elt F) (Rect.unit (s := S32x1024x2048) (k0_off4 (wordAt arg0 X0 k)) S1x1024x2048.size (k0_off4_inb _ hw)).toLoadRect X4 = x2)
    (h3 : arg5.view.readAt (Elt F) (Rect.unit (s := S32x1x2048) (k0_off3 (wordAt arg0 X0 k)) S1x1x2048.size (k0_off3_inb _ hw)).toLoadRect X5 = x3)
    (h4 : arg6.view.readAt (Elt F) (Rect.unit (s := S32x1024x1024) (k0_off6 (wordAt arg0 X0 k)) S1x1024x1024.size (k0_off6_inb _ hw)).toLoadRect X6 = x4)
    (h5 : arg7.view.readAt (Elt F) (Rect.unit (s := S32x1x1024) (k0_off5 (wordAt arg0 X0 k)) S1x1x1024.size (k0_off5_inb _ hw)).toLoadRect X7 = x5)
    (loA : ∀ x, refLoA (wordAt arg1 X1 k) (arg2.view.readAt (Elt F) (rowsLd k).toLoadRect X2) (arg3.view.readAt (Elt F) (rowsLd k).toLoadRect X3) x2 x3 x4 x5 x = GA ((rowsLo k).emb x))
    (loB : ∀ x, refLoB (wordAt arg1 X1 k) (arg2.view.readAt (Elt F) (rowsLd k).toLoadRect X2) (arg3.view.readAt (Elt F) (rowsLd k).toLoadRect X3) x2 x3 x4 x5 x = GB ((rowsLo k).emb x))
    (hiA : ∀ x, refHiA (wordAt arg1 X1 k) (arg2.view.readAt (Elt F) (rowsHi k).toLoadRect X2) (arg3.view.readAt (Elt F) (rowsHi k).toLoadRect X3) x2 x3 x4 x5 x = GA ((rowsHi k).emb x))
    (hiB : ∀ x, refHiB (wordAt arg1 X1 k) (arg2.view.readAt (Elt F) (rowsHi k).toLoadRect X2) (arg3.view.readAt (Elt F) (rowsHi k).toLoadRect X3) x2 x3 x4 x5 x = GB ((rowsHi k).emb x)) :
    Agree GA (tripL_k0_t1 (F := F) Variants.none c none arg0 harg0 arg1 harg1 arg2 harg2 arg3 harg3 arg4 harg4 arg5 harg5 arg6 harg6 arg7 harg7 arg8 harg8 arg9 harg9 X0 X1 X2 X3 X4 X5 X6 X7 k hw).1 ∧ Agree GB (tripL_k0_t1 (F := F) Variants.none c none arg0 harg0 arg1 harg1 arg2 harg2 arg3 harg3 arg4 harg4 arg5 harg5 arg6 harg6 arg7 harg7 arg8 harg8 arg9 harg9 X0 X1 X2 X3 X4 X5 X6 X7 k hw).2 := by
  subst h2 h3 h4 h5
  unfold Agree tripL_k0_t1 trip_k0_t1
  dsimp only
  sl_open_run
  simp only [List.mem_cons, List.not_mem_nil, or_false, forall_eq_or_imp, forall_eq]
  exact ⟨⟨hiA, loA⟩, hiB, loB⟩

/-- All the trips: the pieces of the first `n` agree with `GA` and `GB` when every trip's do. -/
theorem all_agree (hw : ∀ (kq : ℕ) (hkq : kq < k0_t1_loop.trips), k0_chk1 (wordAt arg0 X0 ⟨kq, hkq⟩))
    (h : ∀ k : Fin k0_t1_loop.trips, Agree GA (tripL_k0_t1 (F := F) Variants.none c none arg0 harg0 arg1 harg1 arg2 harg2 arg3 harg3 arg4 harg4 arg5 harg5 arg6 harg6 arg7 harg7 arg8 harg8 arg9 harg9 X0 X1 X2 X3 X4 X5 X6 X7 k (hw k.val k.isLt)).1 ∧ Agree GB (tripL_k0_t1 (F := F) Variants.none c none arg0 harg0 arg1 harg1 arg2 harg2 arg3 harg3 arg4 harg4 arg5 harg5 arg6 harg6 arg7 harg7 arg8 harg8 arg9 harg9 X0 X1 X2 X3 X4 X5 X6 X7 k (hw k.val k.isLt)).2) :
    ∀ n : ℕ, n ≤ k0_t1_loop.trips → Agree GA (pb_k0_t1 (F := F) Variants.none c none arg0 harg0 arg1 harg1 arg2 harg2 arg3 harg3 arg4 harg4 arg5 harg5 arg6 harg6 arg7 harg7 arg8 harg8 arg9 harg9 X0 X1 X2 X3 X4 X5 X6 X7 hw n).1 ∧ Agree GB (pb_k0_t1 (F := F) Variants.none c none arg0 harg0 arg1 harg1 arg2 harg2 arg3 harg3 arg4 harg4 arg5 harg5 arg6 harg6 arg7 harg7 arg8 harg8 arg9 harg9 X0 X1 X2 X3 X4 X5 X6 X7 hw n).2
  | 0, _ => ⟨fun p hp => absurd hp (List.not_mem_nil), fun p hp => absurd hp (List.not_mem_nil)⟩
  | n + 1, hn => by
    have e := pb_k0_t1_succ (F := F) Variants.none c none arg0 harg0 arg1 harg1 arg2 harg2 arg3 harg3 arg4 harg4 arg5 harg5 arg6 harg6 arg7 harg7 arg8 harg8 arg9 harg9 X0 X1 X2 X3 X4 X5 X6 X7 hw ⟨n, hn⟩
    have ih := all_agree hw h n (Nat.le_of_lt hn)
    have ht := h ⟨n, hn⟩
    rw [e]
    exact ⟨fun p hp => (List.mem_append.mp hp).elim (ht.1 p) (ih.1 p), fun p hp => (List.mem_append.mp hp).elim (ht.2 p) (ih.2 p)⟩

end Cert.Reference.Trip

end
-- ==== Proof.Experts.RefRun.lean ====
/- The reference's run: its results are any two arrays that agree with every trip's stores. -/
module

public import proofs.«01_k».proof.Proof.Experts.RefTrip

@[expose] public section

set_option maxRecDepth 16384

noncomputable section

namespace Cert.Reference.Trip

open Cert.Reference Cert.Reference.Gen Idealize.ShloMosaic Idealize.ShloMosaic.TcCoe Idealize.SL.Sem
open Idealize.ShloMosaic.Pipeline (Dat)

variable {F : FTy → Type} [BitOps F]

section Body

variable (c : Dev nD) (arg0 : Memref sig .tc .smem S288 .i32) (harg0 : arg0.IsWhole) (arg1 : Memref sig .tc .smem S288 .i32) (harg1 : arg1.IsWhole)
  (arg2 : Memref sig .tc .vmem S147456x256 .i32) (harg2 : arg2.IsWhole) (arg3 : Memref sig .tc .vmem S147456x256 .i32) (harg3 : arg3.IsWhole)
  (arg4 : Memref sig .tc .vmem S32x1024x2048 .f32) (harg4 : arg4.IsWhole) (arg5 : Memref sig .tc .vmem S32x1x2048 .f32) (harg5 : arg5.IsWhole)
  (arg6 : Memref sig .tc .vmem S32x1024x1024 .f32) (harg6 : arg6.IsWhole) (arg7 : Memref sig .tc .vmem S32x1x1024 .f32) (harg7 : arg7.IsWhole)
  (arg8 : Memref sig .tc .vmem S147456x256 .i32) (harg8 : arg8.IsWhole) (arg9 : Memref sig .tc .vmem S147456x256 .i32) (harg9 : arg9.IsWhole)
  (x0 : Vec F S288 .i32) (x1 : Vec F S288 .i32) (x2 : Vec F S147456x256 .i32) (x3 : Vec F S147456x256 .i32)
  (x4 : Vec F S32x1024x2048 .f32) (x5 : Vec F S32x1x2048 .f32) (x6 : Vec F S32x1024x1024 .f32) (x7 : Vec F S32x1x1024 .f32)
  (GA GB : S147456x256.Idx → Elt F .i32)

set_option maxHeartbeats 1600000 in
/-- What the body stores into each result is the trips' pieces. -/
theorem run_pieces (hw : ∀ (kq : ℕ) (hkq : kq < k0_t1_loop.trips), k0_chk1 (wordAt arg0 (harg0.unread x0) ⟨kq, hkq⟩)) :
    (kernelRun0_A (F := F) c arg0 harg0 arg1 harg1 arg2 harg2 arg3 harg3 arg4 harg4 arg5 harg5 arg6 harg6 arg7 harg7 arg8 harg8 arg9 harg9 x0 x1 x2 x3 x4 x5 x6 x7 hw).1 = (pb_k0_t1 (F := F) Variants.none c none arg0 harg0 arg1 harg1 arg2 harg2 arg3 harg3 arg4 harg4 arg5 harg5 arg6 harg6 arg7 harg7 arg8 harg8 arg9 harg9 (harg0.unread x0) (harg1.unread x1) (harg2.unread x2) (harg3.unread x3) (harg4.unread x4) (harg5.unread x5) (harg6.unread x6) (harg7.unread x7) hw k0_t1_loop.trips).1
    ∧ (kernelRun0_A (F := F) c arg0 harg0 arg1 harg1 arg2 harg2 arg3 harg3 arg4 harg4 arg5 harg5 arg6 harg6 arg7 harg7 arg8 harg8 arg9 harg9 x0 x1 x2 x3 x4 x5 x6 x7 hw).2.1 = (pb_k0_t1 (F := F) Variants.none c none arg0 harg0 arg1 harg1 arg2 harg2 arg3 harg3 arg4 harg4 arg5 harg5 arg6 harg6 arg7 harg7 arg8 harg8 arg9 harg9 (harg0.unread x0) (harg1.unread x1) (harg2.unread x2) (harg3.unread x3) (harg4.unread x4) (harg5.unread x5) (harg6.unread x6) (harg7.unread x7) hw k0_t1_loop.trips).2 := by
  unfold kernelRun0_A
  dsimp only
  sl_open_run
  constructor <;> simp only [List.append_nil]

/-- So each result of the body is an array that agrees with every trip. -/
theorem out_agree (hw : ∀ (kq : ℕ) (hkq : kq < k0_t1_loop.trips), k0_chk1 (wordAt arg0 (harg0.unread x0) ⟨kq, hkq⟩))
    (h : ∀ k : Fin k0_t1_loop.trips, Agree GA (tripL_k0_t1 (F := F) Variants.none c none arg0 harg0 arg1 harg1 arg2 harg2 arg3 harg3 arg4 harg4 arg5 harg5 arg6 harg6 arg7 harg7 arg8 harg8 arg9 harg9 (harg0.unread x0) (harg1.unread x1) (harg2.unread x2) (harg3.unread x3) (harg4.unread x4) (harg5.unread x5) (harg6.unread x6) (harg7.unread x7) k (hw k.val k.isLt)).1
      ∧ Agree GB (tripL_k0_t1 (F := F) Variants.none c none arg0 harg0 arg1 harg1 arg2 harg2 arg3 harg3 arg4 harg4 arg5 harg5 arg6 harg6 arg7 harg7 arg8 harg8 arg9 harg9 (harg0.unread x0) (harg1.unread x1) (harg2.unread x2) (harg3.unread x3) (harg4.unread x4) (harg5.unread x5) (harg6.unread x6) (harg7.unread x7) k (hw k.val k.isLt)).2) :
    out0_A_8 (F := F) c arg0 harg0 arg1 harg1 arg2 harg2 arg3 harg3 arg4 harg4 arg5 harg5 arg6 harg6 arg7 harg7 arg8 harg8 arg9 harg9 x0 x1 x2 x3 x4 x5 x6 x7 hw = GA ∧ out0_A_9 (F := F) c arg0 harg0 arg1 harg1 arg2 harg2 arg3 harg3 arg4 harg4 arg5 harg5 arg6 harg6 arg7 harg7 arg8 harg8 arg9 harg9 x0 x1 x2 x3 x4 x5 x6 x7 hw = GB := by
  obtain ⟨eA, eB⟩ := run_pieces c arg0 harg0 arg1 harg1 arg2 harg2 arg3 harg3 arg4 harg4 arg5 harg5 arg6 harg6 arg7 harg7 arg8 harg8 arg9 harg9 x0 x1 x2 x3 x4 x5 x6 x7 hw
  obtain ⟨hA, hB⟩ := all_agree c arg0 harg0 arg1 harg1 arg2 harg2 arg3 harg3 arg4 harg4 arg5 harg5 arg6 harg6 arg7 harg7 arg8 harg8 arg9 harg9 (harg0.unread x0) (harg1.unread x1) (harg2.unread x2) (harg3.unread x3) (harg4.unread x4) (harg5.unread x5) (harg6.unread x6) (harg7.unread x7) GA GB hw h _ (Nat.le_refl _)
  refine ⟨funext fun y => ?_, funext fun y => ?_⟩
  · unfold out0_A_8
    exact View.read_writes_apply_of_pieces _ _ GA _ (by rw [eA]; exact hA) y (cover0_A_8 c arg0 harg0 arg1 harg1 arg2 harg2 arg3 harg3 arg4 harg4 arg5 harg5 arg6 harg6 arg7 harg7 arg8 harg8 arg9 harg9 x0 x1 x2 x3 x4 x5 x6 x7 hw y)
  · unfold out0_A_9
    exact View.read_writes_apply_of_pieces _ _ GB _ (by rw [eB]; exact hB) y (cover0_A_9 c arg0 harg0 arg1 harg1 arg2 harg2 arg3 harg3 arg4 harg4 arg5 harg5 arg6 harg6 arg7 harg7 arg8 harg8 arg9 harg9 x0 x1 x2 x3 x4 x5 x6 x7 hw y)

end Body

variable (m : (ℓ : Loc nD τ sig) → Buf (Elt F) ℓ) (ρ : Dev nD → PrngReg)

/-- The grid's one point. -/
abbrev pt : Fin cfg0.N := ⟨0, by decide⟩

/-- The trips' stores, at the reference's own memrefs, agree with two arrays. -/
def Agrees (hH : Hyps m) (c : Dev nD) (GA GB : S147456x256.Idx → Elt F .i32) : Prop :=
  ∀ (t : Fin cfg0.N) (k : Fin k0_t1_loop.trips),
    Agree GA (tripL_k0_t1 (F := F) Variants.none c none (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hs0_0 t).unread (iblk m c 0 t)) ((hs0_1 t).unread (iblk m c 1 t)) ((hs0_2 t).unread (iblk m c 2 t)) ((hs0_3 t).unread (iblk m c 3 t)) ((hs0_4 t).unread (iblk m c 4 t)) ((hs0_5 t).unread (iblk m c 5 t)) ((hs0_6 t).unread (iblk m c 6 t)) ((hs0_7 t).unread (iblk m c 7 t)) k (Hyps.c0 hH c t k.val k.isLt)).1
    ∧ Agree GB (tripL_k0_t1 (F := F) Variants.none c none (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hs0_0 t).unread (iblk m c 0 t)) ((hs0_1 t).unread (iblk m c 1 t)) ((hs0_2 t).unread (iblk m c 2 t)) ((hs0_3 t).unread (iblk m c 3 t)) ((hs0_4 t).unread (iblk m c 4 t)) ((hs0_5 t).unread (iblk m c 5 t)) ((hs0_6 t).unread (iblk m c 6 t)) ((hs0_7 t).unread (iblk m c 7 t)) k (Hyps.c0 hH c t k.val k.isLt)).2

set_option maxHeartbeats 1600000 in
/-- Then the results end at those arrays. -/
theorem final_eq (hH : Hyps m) (c : Dev nD) (GA GB : S147456x256.Idx → Elt F .i32) (h : Agrees m hH c GA GB) :
    (dats m hH 0 c).arrAt 8 cfg0.N = GA ∧ (dats m hH 0 c).arrAt 9 cfg0.N = GB := by
  obtain ⟨hA, hB⟩ := out_agree c (ms0_0 pt) (hs0_0 pt) (ms0_1 pt) (hs0_1 pt) (ms0_2 pt) (hs0_2 pt) (ms0_3 pt) (hs0_3 pt) (ms0_4 pt) (hs0_4 pt) (ms0_5 pt) (hs0_5 pt) (ms0_6 pt) (hs0_6 pt) (ms0_7 pt) (hs0_7 pt) (ms0_8 pt) (hs0_8 pt) (ms0_9 pt) (hs0_9 pt) (iblk m c 0 pt) (iblk m c 1 pt) (iblk m c 2 pt) (iblk m c 3 pt) (iblk m c 4 pt) (iblk m c 5 pt) (iblk m c 6 pt) (iblk m c 7 pt) GA GB (Hyps.c0 hH c pt) (h pt)
  refine ⟨funext fun y => ?_, funext fun y => ?_⟩
  · have hf : (cfg0.win 8).flush pt = true := by decide
    have e := (dats m hH 0 c).arrAt_emb_eq_flushed 8 Value.disjoint8 pt hf y
    have hy : ((cfg0.win 8).blk pt).view.emb y = y := by
      refine funext fun a => Fin.ext ?_
      fin_cases a
      · show 0 * 147456 + 1 * (y 0).val = (y 0).val; omega
      · show 0 * 256 + 1 * (y 1).val = (y 1).val; omega
    have e2 : (dats m hH 0 c).flushed 8 pt y = GA y := by
      rw [Value.flushed8_A, hA]
    rw [hy, e2] at e
    exact e.trans (cast_eq _ _)
  · have hf : (cfg0.win 9).flush pt = true := by decide
    have e := (dats m hH 0 c).arrAt_emb_eq_flushed 9 Value.disjoint9 pt hf y
    have hy : ((cfg0.win 9).blk pt).view.emb y = y := by
      refine funext fun a => Fin.ext ?_
      fin_cases a
      · show 0 * 147456 + 1 * (y 0).val = (y 0).val; omega
      · show 0 * 256 + 1 * (y 1).val = (y 1).val; omega
    have e2 : (dats m hH 0 c).flushed 9 pt y = GB y := by
      rw [Value.flushed9_A, hB]
    rw [hy, e2] at e
    exact e.trans (cast_eq _ _)

end Cert.Reference.Trip

end
-- ==== Proof.Experts.RefLoads.lean ====
/- What the reference's loads read, in terms of the arrays its call is handed, and the condition it assumes of an expert. -/
module

public import proofs.«01_k».proof.Proof.Experts.RefRun

@[expose] public section

set_option maxRecDepth 16384

noncomputable section

namespace Cert.Reference.Trip

open Cert.Reference Cert.Reference.Gen Idealize.ShloMosaic Idealize.ShloMosaic.TcCoe Idealize.SL.Sem

variable {F : FTy → Type} [BitOps F]
variable (m : (ℓ : Loc nD τ sig) → Buf (Elt F) ℓ) (c : Dev nD) (t : Fin cfg0.N)

/-- A load of a whole buffer reads the buffer's contents under its rectangle. -/
theorem ld_eq {κ : Kind} {sp : Space} {s : Shape} {e : EltTy} {Val : EltTy → Type} {M : Memref sig κ sp s e} (h : M.IsWhole)
    (X : s.Idx → Val e) (r : Rect s) (x : r.shape.Idx) : M.view.readAt Val r.toLoadRect (h.unread X) x = X (r.emb x) := by
  rw [View.readAt_eq_ld, h.read_unread]; rfl

/-! The one block of every array is the array. -/

theorem blk0 : iblk m c 0 t = V m c main_v21 := funext fun y => congrArg (V m c main_v21) (funext fun a => Fin.ext (by
  fin_cases a; show 0 * 288 + 1 * (y 0).val = (y 0).val; omega))
theorem blk1 : iblk m c 1 t = V m c main_v39 := funext fun y => congrArg (V m c main_v39) (funext fun a => Fin.ext (by
  fin_cases a; show 0 * 288 + 1 * (y 0).val = (y 0).val; omega))
theorem blk2 : iblk m c 2 t = V m c main_arg1 := funext fun y => congrArg (V m c main_arg1) (funext fun a => Fin.ext (by
  fin_cases a
  · show 0 * 147456 + 1 * (y 0).val = (y 0).val; omega
  · show 0 * 256 + 1 * (y 1).val = (y 1).val; omega))
theorem blk3 : iblk m c 3 t = V m c main_arg2 := funext fun y => congrArg (V m c main_arg2) (funext fun a => Fin.ext (by
  fin_cases a
  · show 0 * 147456 + 1 * (y 0).val = (y 0).val; omega
  · show 0 * 256 + 1 * (y 1).val = (y 1).val; omega))
theorem blk4 : iblk m c 4 t = V m c main_arg3 := funext fun y => congrArg (V m c main_arg3) (funext fun a => Fin.ext (by
  fin_cases a
  · show 0 * 32 + 1 * (y 0).val = (y 0).val; omega
  · show 0 * 1024 + 1 * (y 1).val = (y 1).val; omega
  · show 0 * 2048 + 1 * (y 2).val = (y 2).val; omega))
theorem blk5 : iblk m c 5 t = V m c main_v40 := funext fun y => congrArg (V m c main_v40) (funext fun a => Fin.ext (by
  fin_cases a
  · show 0 * 32 + 1 * (y 0).val = (y 0).val; omega
  · show 0 * 1 + 1 * (y 1).val = (y 1).val; omega
  · show 0 * 2048 + 1 * (y 2).val = (y 2).val; omega))
theorem blk6 : iblk m c 6 t = V m c main_arg5 := funext fun y => congrArg (V m c main_arg5) (funext fun a => Fin.ext (by
  fin_cases a
  · show 0 * 32 + 1 * (y 0).val = (y 0).val; omega
  · show 0 * 1024 + 1 * (y 1).val = (y 1).val; omega
  · show 0 * 1024 + 1 * (y 2).val = (y 2).val; omega))
theorem blk7 : iblk m c 7 t = V m c main_v41 := funext fun y => congrArg (V m c main_v41) (funext fun a => Fin.ext (by
  fin_cases a
  · show 0 * 32 + 1 * (y 0).val = (y 0).val; omega
  · show 0 * 1 + 1 * (y 1).val = (y 1).val; omega
  · show 0 * 1024 + 1 * (y 2).val = (y 2).val; omega))

/-- Trip `k` reads word `k` of a table. -/
theorem word_eq {M : Memref sig .tc .smem S288 .i32} (h : M.IsWhole) (X : S288.Idx → Elt F .i32) (k : Fin k0_t1_loop.trips) (j : S288.Idx)
    (hj : (j 0).val = k.val) : wordAt M (h.unread X) k = X j := by
  refine (ld_eq h X _ _).trans (congrArg X (funext fun a => Fin.ext ?_))
  fin_cases a
  show k0_off1 k 0 + 1 * 0 = (j 0).val
  have e : k0_off1 k 0 = k.val := congrFun (k0_off1_eq k) 0
  omega

/-- An expert of the 32 has its weights inside the arrays. -/
theorem chk_of_lt (v : BitVec 32) (h : v.toNat < 32) : k0_chk1 v := by
  refine ⟨fun a => ?_, fun a => ?_, fun a => ?_, fun a => ?_⟩
  all_goals
    fin_cases a
    · show v.toNat + 1 ≤ 32; omega
    all_goals exact Nat.le_refl _

/-- So the reference's condition holds when every word of the first table is such an expert. -/
theorem hyps_of_lt (h : ∀ (c : Dev nD) (j : S288.Idx), (V m c main_v21 j : BitVec 32).toNat < 32) : Hyps m := by
  refine Hyps.of fun c t kq hkq => chk_of_lt _ ?_
  have hk : kq < 288 := Nat.lt_of_lt_of_le hkq (by decide)
  have e := word_eq (F := F) (hs0_0 t) (iblk m c 0 t) ⟨kq, hkq⟩ (fun a => ⟨kq, by fin_cases a; exact hk⟩) rfl
  exact (congrArg BitVec.toNat (e.trans (congrFun (blk0 m c t) _))).trans_lt (h c _)

end Cert.Reference.Trip

end
-- ==== Proof.Experts.Tables.lean ====
/- The two tables and the biases, as the host lines of the call and of its reference prepare them: the same words, and
   every expert among the 32. -/
module

public import proofs.«01_k».proof.Proof.Experts.Setup
public import proofs.«01_k».proof.Proof.Gen.Reference.Frame.Runs
public import Idealize.ShloMosaic.Lib.Claim
public import Idealize.ShloMosaic.Lib.Pointwise
public import Idealize.ShloMosaic.Lib.Tactic.CleanTypes
public import Idealize.ShloMosaic.Lib.StableHlo.Predicate

@[expose] public section

set_option maxRecDepth 16384

noncomputable section

namespace Cert.Tables

open Idealize.ShloMosaic Idealize.ShloMosaic.TcCoe Idealize.SL.Sem

variable {F : FTy → Type} [BitOps F]
variable (m : (ℓ : Loc Cert.Kernel.nD Cert.Kernel.τ Cert.Kernel.sig) → Buf (Elt F) ℓ)
variable (m' : (ℓ : Loc Cert.Reference.nD Cert.Reference.τ Cert.Reference.sig) → Buf (Elt F) ℓ)

/-! ## The expert of a block is below 32 -/

/-- A count along the rows of a mask with 32 columns, cut off at 31, is below 32. -/
theorem count_lt (msk : IVec ⟨2, ![288, 32]⟩ 1) (hw : 1 < 32) (h : (⟨2, ![288, 32]⟩ : Shape).ReducesTo [1] ⟨1, ![288]⟩)
    (hu : 0 < (⟨0, ![]⟩ : Shape).numel) (j : (⟨1, ![288]⟩ : Shape).Idx) :
    (IntOp.minsi (Host.reduce IntOp.addi (extui 32 msk hw) (constantI ⟨0, ![]⟩ 32 0#32) h hu j) 31#32).toNat < 32 := by
  have e : (Host.reduce IntOp.addi (extui 32 msk hw) (constantI ⟨0, ![]⟩ 32 0#32) h hu j).toNat ≤ 32 := by
    rw [StableHlo.Predicate.toNat_reduce_count_cols (by decide) msk hw h hu j]
    exact (Finset.card_le_univ _).trans (by simp)
  generalize Host.reduce IntOp.addi (extui 32 msk hw) (constantI ⟨0, ![]⟩ 32 0#32) h hu j = x at e
  unfold IntOp.minsi
  split
  · rename_i hx
    have h1 : x.toInt < (31#32).toInt := by rw [BitVec.slt] at hx; simpa using hx
    rw [BitVec.toInt_eq_toNat_cond, BitVec.toInt_eq_toNat_cond] at h1
    have h31 : (31#32 : BitVec 32).toNat = 31 := rfl
    split at h1 <;> split at h1 <;> omega
  · decide

/-- In the call -/
theorem kernel_lt (c : Dev Cert.Kernel.nD) (j : Cert.Kernel.S288.Idx) :
    (Cert.Kernel.Experts.V m c Cert.Kernel.main_v22 j : BitVec 32).toNat < 32 := by
  rw [Cert.Kernel.Experts.V_lines]
  beta_reduce
  simp only [Cert.Kernel.Experts.hostLines, Cert.Kernel.Gen.hostOps0, Cert.Kernel.Gen.hostOps0_1, Cert.Kernel.Gen.hostOps0_2,
    Cert.Kernel.Gen.hostOps0_3, Cert.Kernel.Gen.hostOps0_4, Cert.Kernel.Gen.hostOps0_5, Cert.Kernel.Gen.hostOps0_6,
    List.flatten_cons, List.flatten_nil, List.append_nil, List.cons_append, List.nil_append]
  entry_read
  exact count_lt _ _ _ _ j

/-- and in the reference. -/
theorem reference_lt (c : Dev Cert.Reference.nD) (j : Cert.Reference.S288.Idx) :
    (Cert.Reference.Gen.V m' c Cert.Reference.main_v21 j : BitVec 32).toNat < 32 := by
  simp only [Cert.Reference.Gen.V, Cert.Reference.Gen.hostOps0, Cert.Reference.Gen.hostOps0_1, Cert.Reference.Gen.hostOps0_2,
    Cert.Reference.Gen.hostOps0_3, Cert.Reference.Gen.hostOps0_4, Cert.Reference.Gen.hostOps0_5, Cert.Reference.Gen.hostOps0_6,
    List.flatten_cons, List.flatten_nil, List.append_nil, List.cons_append, List.nil_append]
  entry_read
  exact count_lt _ _ _ _ j

/-! ## Both programs prepare the same words -/

/-- The tables of experts, -/
theorem be_same (c : Dev Cert.Kernel.nD)
    (h : m' ((c.tc : Thread Cert.Reference.nD Cert.Reference.τ).loc Cert.Reference.main_arg0) = m ((c.tc : Thread Cert.Kernel.nD Cert.Kernel.τ).loc Cert.Kernel.main_arg0)) :
    Cert.Reference.Gen.V m' c Cert.Reference.main_v21 = Cert.Kernel.Experts.V m c Cert.Kernel.main_v22 := by
  rw [Cert.Kernel.Experts.V_lines]
  beta_reduce
  simp only [Cert.Kernel.Experts.hostLines, Cert.Kernel.Gen.hostOps0, Cert.Kernel.Gen.hostOps0_1, Cert.Kernel.Gen.hostOps0_2,
    Cert.Kernel.Gen.hostOps0_3, Cert.Kernel.Gen.hostOps0_4, Cert.Kernel.Gen.hostOps0_5, Cert.Kernel.Gen.hostOps0_6,
    Cert.Reference.Gen.V, Cert.Reference.Gen.hostOps0, Cert.Reference.Gen.hostOps0_1, Cert.Reference.Gen.hostOps0_2,
    Cert.Reference.Gen.hostOps0_3, Cert.Reference.Gen.hostOps0_4, Cert.Reference.Gen.hostOps0_5, Cert.Reference.Gen.hostOps0_6,
    List.flatten_cons, List.flatten_nil, List.append_nil, List.cons_append, List.nil_append]
  entry_read
  simp -implicitDefEqProofs only [StableHlo.TRef.toBuf, StableHlo.TRef.ofBuf, cast_cast, cast_eq]
  clean_types
  have h' : m' (c, Proc.tc.devRef Cert.Reference.main_arg0) = m (c, Proc.tc.devRef Cert.Kernel.main_arg0) := h
  rw [h']
  rfl

/-- of live rows, -/
theorem nv_same (c : Dev Cert.Kernel.nD)
    (h : m' ((c.tc : Thread Cert.Reference.nD Cert.Reference.τ).loc Cert.Reference.main_arg0) = m ((c.tc : Thread Cert.Kernel.nD Cert.Kernel.τ).loc Cert.Kernel.main_arg0)) :
    Cert.Reference.Gen.V m' c Cert.Reference.main_v39 = Cert.Kernel.Experts.V m c Cert.Kernel.main_v39 := by
  rw [Cert.Kernel.Experts.V_lines]
  beta_reduce
  simp only [Cert.Kernel.Experts.hostLines, Cert.Kernel.Gen.hostOps0, Cert.Kernel.Gen.hostOps0_1, Cert.Kernel.Gen.hostOps0_2,
    Cert.Kernel.Gen.hostOps0_3, Cert.Kernel.Gen.hostOps0_4, Cert.Kernel.Gen.hostOps0_5, Cert.Kernel.Gen.hostOps0_6,
    Cert.Reference.Gen.V, Cert.Reference.Gen.hostOps0, Cert.Reference.Gen.hostOps0_1, Cert.Reference.Gen.hostOps0_2,
    Cert.Reference.Gen.hostOps0_3, Cert.Reference.Gen.hostOps0_4, Cert.Reference.Gen.hostOps0_5, Cert.Reference.Gen.hostOps0_6,
    List.flatten_cons, List.flatten_nil, List.append_nil, List.cons_append, List.nil_append]
  entry_read
  simp -implicitDefEqProofs only [StableHlo.TRef.toBuf, StableHlo.TRef.ofBuf, cast_cast, cast_eq]
  clean_types
  have h' : m' (c, Proc.tc.devRef Cert.Reference.main_arg0) = m (c, Proc.tc.devRef Cert.Kernel.main_arg0) := h
  rw [h']
  rfl

/-- the first layer's biases -/
theorem bgu_same (c : Dev Cert.Kernel.nD)
    (h : m' ((c.tc : Thread Cert.Reference.nD Cert.Reference.τ).loc Cert.Reference.main_arg4) = m ((c.tc : Thread Cert.Kernel.nD Cert.Kernel.τ).loc Cert.Kernel.main_arg4)) :
    Cert.Reference.Gen.V m' c Cert.Reference.main_v40 = Cert.Kernel.Experts.V m c Cert.Kernel.main_v40 := by
  rw [Cert.Kernel.Experts.V_lines]
  beta_reduce
  simp only [Cert.Kernel.Experts.hostLines, Cert.Kernel.Gen.hostOps0, Cert.Kernel.Gen.hostOps0_1, Cert.Kernel.Gen.hostOps0_2,
    Cert.Kernel.Gen.hostOps0_3, Cert.Kernel.Gen.hostOps0_4, Cert.Kernel.Gen.hostOps0_5, Cert.Kernel.Gen.hostOps0_6,
    Cert.Reference.Gen.V, Cert.Reference.Gen.hostOps0, Cert.Reference.Gen.hostOps0_1, Cert.Reference.Gen.hostOps0_2,
    Cert.Reference.Gen.hostOps0_3, Cert.Reference.Gen.hostOps0_4, Cert.Reference.Gen.hostOps0_5, Cert.Reference.Gen.hostOps0_6,
    List.flatten_cons, List.flatten_nil, List.append_nil, List.cons_append, List.nil_append]
  entry_read
  clean_types
  have h' : m' (c, Proc.tc.devRef Cert.Reference.main_arg4) = m (c, Proc.tc.devRef Cert.Kernel.main_arg4) := h
  rw [h']
  generalize m (c, Proc.tc.devRef Cert.Kernel.main_arg4) = x
  funext j
  obtain ⟨e, z, n, rfl⟩ : ∃ (e : Fin 32) (z : Fin 1) (n : Fin 2048), j = ix3 e z n := ⟨j 0, j 1, j 2, by
    funext a; match a with | ⟨0, _⟩ => rfl | ⟨1, _⟩ => rfl | ⟨2, _⟩ => rfl⟩
  pointwise

/-- and the second layer's. -/
theorem bd_same (c : Dev Cert.Kernel.nD)
    (h : m' ((c.tc : Thread Cert.Reference.nD Cert.Reference.τ).loc Cert.Reference.main_arg6) = m ((c.tc : Thread Cert.Kernel.nD Cert.Kernel.τ).loc Cert.Kernel.main_arg6)) :
    Cert.Reference.Gen.V m' c Cert.Reference.main_v41 = Cert.Kernel.Experts.V m c Cert.Kernel.main_v41 := by
  rw [Cert.Kernel.Experts.V_lines]
  beta_reduce
  simp only [Cert.Kernel.Experts.hostLines, Cert.Kernel.Gen.hostOps0, Cert.Kernel.Gen.hostOps0_1, Cert.Kernel.Gen.hostOps0_2,
    Cert.Kernel.Gen.hostOps0_3, Cert.Kernel.Gen.hostOps0_4, Cert.Kernel.Gen.hostOps0_5, Cert.Kernel.Gen.hostOps0_6,
    Cert.Reference.Gen.V, Cert.Reference.Gen.hostOps0, Cert.Reference.Gen.hostOps0_1, Cert.Reference.Gen.hostOps0_2,
    Cert.Reference.Gen.hostOps0_3, Cert.Reference.Gen.hostOps0_4, Cert.Reference.Gen.hostOps0_5, Cert.Reference.Gen.hostOps0_6,
    List.flatten_cons, List.flatten_nil, List.append_nil, List.cons_append, List.nil_append]
  entry_read
  clean_types
  have h' : m' (c, Proc.tc.devRef Cert.Reference.main_arg6) = m (c, Proc.tc.devRef Cert.Kernel.main_arg6) := h
  rw [h']
  generalize m (c, Proc.tc.devRef Cert.Kernel.main_arg6) = x
  funext j
  obtain ⟨e, z, n, rfl⟩ : ∃ (e : Fin 32) (z : Fin 1) (n : Fin 1024), j = ix3 e z n := ⟨j 0, j 1, j 2, by
    funext a; match a with | ⟨0, _⟩ => rfl | ⟨1, _⟩ => rfl | ⟨2, _⟩ => rfl⟩
  pointwise

end Cert.Tables

end
-- ==== Proof.Experts.Value.lean ====
/- The experts' call and the reference end with the same words: each block the call writes is the reference's trip of
   that number, since both read the same rows, the same expert's weights and the same count of real rows. -/
module

public import proofs.«01_k».proof.Proof.Experts.Launch
public import proofs.«01_k».proof.Proof.Experts.RefLoads
public import proofs.«01_k».proof.Proof.Experts.Tables

@[expose] public section

set_option maxRecDepth 16384

noncomputable section

namespace Cert.Value

open Idealize.ShloMosaic Idealize.ShloMosaic.TcCoe Idealize.SL.Sem
open Cert.Kernel.Experts (Ok cfgM beW nvW b0 b1 b2 b3 b4 b5 finA finB loR hiR lo hi)
open Cert.Reference.Gen (Hyps iblk ms0_0 hs0_0 ms0_1 hs0_1 ms0_2 hs0_2 ms0_3 hs0_3)
open Cert.Reference.Trip (wordAt rowsLo rowsHi rowsLd Agrees)

variable {F : FTy → Type} [BitOps F]
variable (m : (ℓ : Loc Cert.Kernel.nD Cert.Kernel.τ Cert.Kernel.sig) → Buf (Elt F) ℓ)
variable (m' : (ℓ : Loc Cert.Reference.nD Cert.Reference.τ Cert.Reference.sig) → Buf (Elt F) ℓ)

/-- The two programs hand their calls the same arrays. -/
structure Same (c : Dev Cert.Kernel.nD) : Prop where
  a0 : Cert.Reference.Gen.V m' c Cert.Reference.main_v21 = Cert.Kernel.Experts.V m c Cert.Kernel.main_v22
  a1 : Cert.Reference.Gen.V m' c Cert.Reference.main_v39 = Cert.Kernel.Experts.V m c Cert.Kernel.main_v39
  a2 : Cert.Reference.Gen.V m' c Cert.Reference.main_arg1 = Cert.Kernel.Experts.V m c Cert.Kernel.main_arg1
  a3 : Cert.Reference.Gen.V m' c Cert.Reference.main_arg2 = Cert.Kernel.Experts.V m c Cert.Kernel.main_arg2
  a4 : Cert.Reference.Gen.V m' c Cert.Reference.main_arg3 = Cert.Kernel.Experts.V m c Cert.Kernel.main_arg3
  a5 : Cert.Reference.Gen.V m' c Cert.Reference.main_v40 = Cert.Kernel.Experts.V m c Cert.Kernel.main_v40
  a6 : Cert.Reference.Gen.V m' c Cert.Reference.main_arg5 = Cert.Kernel.Experts.V m c Cert.Kernel.main_arg5
  a7 : Cert.Reference.Gen.V m' c Cert.Reference.main_v41 = Cert.Kernel.Experts.V m c Cert.Kernel.main_v41

/-- They do if they start from the same arguments. -/
theorem Same.of (c : Dev Cert.Kernel.nD)
    (h0 : m' ((c.tc : Thread Cert.Reference.nD Cert.Reference.τ).loc Cert.Reference.main_arg0) = m ((c.tc : Thread Cert.Kernel.nD Cert.Kernel.τ).loc Cert.Kernel.main_arg0))
    (h1 : m' ((c.tc : Thread Cert.Reference.nD Cert.Reference.τ).loc Cert.Reference.main_arg1) = m ((c.tc : Thread Cert.Kernel.nD Cert.Kernel.τ).loc Cert.Kernel.main_arg1))
    (h2 : m' ((c.tc : Thread Cert.Reference.nD Cert.Reference.τ).loc Cert.Reference.main_arg2) = m ((c.tc : Thread Cert.Kernel.nD Cert.Kernel.τ).loc Cert.Kernel.main_arg2))
    (h3 : m' ((c.tc : Thread Cert.Reference.nD Cert.Reference.τ).loc Cert.Reference.main_arg3) = m ((c.tc : Thread Cert.Kernel.nD Cert.Kernel.τ).loc Cert.Kernel.main_arg3))
    (h4 : m' ((c.tc : Thread Cert.Reference.nD Cert.Reference.τ).loc Cert.Reference.main_arg4) = m ((c.tc : Thread Cert.Kernel.nD Cert.Kernel.τ).loc Cert.Kernel.main_arg4))
    (h5 : m' ((c.tc : Thread Cert.Reference.nD Cert.Reference.τ).loc Cert.Reference.main_arg5) = m ((c.tc : Thread Cert.Kernel.nD Cert.Kernel.τ).loc Cert.Kernel.main_arg5))
    (h6 : m' ((c.tc : Thread Cert.Reference.nD Cert.Reference.τ).loc Cert.Reference.main_arg6) = m ((c.tc : Thread Cert.Kernel.nD Cert.Kernel.τ).loc Cert.Kernel.main_arg6)) :
    Same m m' c where
  a0 := Cert.Tables.be_same m m' c h0
  a1 := Cert.Tables.nv_same m m' c h0
  a2 := (Cert.Reference.Gen.V_main_arg1 m' c).trans (h1.trans (Cert.Kernel.Experts.V_arg m c _ (by decide)).symm)
  a3 := (Cert.Reference.Gen.V_main_arg2 m' c).trans (h2.trans (Cert.Kernel.Experts.V_arg m c _ (by decide)).symm)
  a4 := (Cert.Reference.Gen.V_main_arg3 m' c).trans (h3.trans (Cert.Kernel.Experts.V_arg m c _ (by decide)).symm)
  a5 := Cert.Tables.bgu_same m m' c h4
  a6 := (Cert.Reference.Gen.V_main_arg5 m' c).trans (h5.trans (Cert.Kernel.Experts.V_arg m c _ (by decide)).symm)
  a7 := Cert.Tables.bd_same m m' c h6

variable (hO : Ok m) (hH : Hyps m') (c : Dev Cert.Kernel.nD) (hs : Same m m' c)
variable (t : Fin Cert.Reference.cfg0.N) (k : Fin Cert.Reference.k0_t1_loop.trips)

theorem k_lt : k.val < 288 := Nat.lt_of_lt_of_le k.isLt (by decide)

/-- The call's point of the trip's number. -/
abbrev kt : Fin (cfgM m hO).N := ⟨k.val, Nat.lt_of_lt_of_eq (k_lt k) Cert.Kernel.Gen.N_0.symm⟩

/-- The word of the trip's number. -/
abbrev jk : Cert.Kernel.S288.Idx := fun a => ⟨k.val, by fin_cases a; exact k_lt k⟩

include hs

/-- The trip's expert is the point's; -/
theorem be_eq : wordAt (ms0_0 t) ((hs0_0 t).unread (iblk m' c 0 t)) k = beW m c (Cert.Kernel.grid0.coords (kt m hO k)) := by
  refine (Cert.Reference.Trip.word_eq (hs0_0 t) _ k (jk k) rfl).trans ?_
  rw [Cert.Reference.Trip.blk0, Cert.Kernel.Experts.beW_eq m c (Cert.Kernel.grid0.coords (kt m hO k)) (jk k) (Cert.Kernel.Experts.coords0 _).symm]
  exact congrFun hs.a0 _
/-- so is its count of real rows. -/
theorem nv_eq : wordAt (ms0_1 t) ((hs0_1 t).unread (iblk m' c 1 t)) k = nvW m c (Cert.Kernel.grid0.coords (kt m hO k)) := by
  refine (Cert.Reference.Trip.word_eq (hs0_1 t) _ k (jk k) rfl).trans ?_
  rw [Cert.Reference.Trip.blk1, Cert.Kernel.Experts.nvW_eq m c (Cert.Kernel.grid0.coords (kt m hO k)) (jk k) (Cert.Kernel.Experts.coords0 _).symm]
  exact congrFun hs.a1 _

omit hs in
/-- Where the lower half's rows lie, as the stores and as the loads spell it, -/
theorem off_lo : Cert.Reference.k0_off7 k 0#32 0 = 512 * k.val := congrFun (Cert.Reference.Gen.k0_off7_eq k 0) 0
omit hs in
theorem off_ld : Cert.Reference.k0_off2 k 0 = 512 * k.val := congrFun (Cert.Reference.Gen.k0_off2_eq k) 0
omit hs in
/-- and the upper half's. -/
theorem off_hi : Cert.Reference.k0_off7 k 256#32 0 = 512 * k.val + 256 := congrFun (Cert.Reference.Gen.k0_off7_eq k 1) 0

/-- The rows a trip reads are the point's. -/
theorem xa_lo : (ms0_2 t).view.readAt (Elt F) (rowsLd k).toLoadRect ((hs0_2 t).unread (iblk m' c 2 t)) = lo (b0 m hO c (kt m hO k)) :=
  funext fun x => (Cert.Reference.Trip.ld_eq (hs0_2 t) _ _ x).trans ((congrFun ((Cert.Reference.Trip.blk2 m' c t).trans hs.a2) _).trans
    (Cert.Kernel.Experts.b0_apply m hO c (kt m hO k) (loR.emb x) _
      (by show Cert.Reference.k0_off2 k 0 + 1 * (x 0).val = 512 * k.val + (0 + 1 * (x 0).val); have := off_ld k; omega) rfl).symm)
theorem xb_lo : (ms0_3 t).view.readAt (Elt F) (rowsLd k).toLoadRect ((hs0_3 t).unread (iblk m' c 3 t)) = lo (b1 m hO c (kt m hO k)) :=
  funext fun x => (Cert.Reference.Trip.ld_eq (hs0_3 t) _ _ x).trans ((congrFun ((Cert.Reference.Trip.blk3 m' c t).trans hs.a3) _).trans
    (Cert.Kernel.Experts.b1_apply m hO c (kt m hO k) (loR.emb x) _
      (by show Cert.Reference.k0_off2 k 0 + 1 * (x 0).val = 512 * k.val + (0 + 1 * (x 0).val); have := off_ld k; omega) rfl).symm)
theorem xa_hi : (ms0_2 t).view.readAt (Elt F) (rowsHi k).toLoadRect ((hs0_2 t).unread (iblk m' c 2 t)) = hi (b0 m hO c (kt m hO k)) :=
  funext fun x => (Cert.Reference.Trip.ld_eq (hs0_2 t) _ _ x).trans ((congrFun ((Cert.Reference.Trip.blk2 m' c t).trans hs.a2) _).trans
    (Cert.Kernel.Experts.b0_apply m hO c (kt m hO k) (hiR.emb x) _
      (by show Cert.Reference.k0_off7 k 256#32 0 + 1 * (x 0).val = 512 * k.val + (256 + 1 * (x 0).val); have := off_hi k; omega) rfl).symm)
theorem xb_hi : (ms0_3 t).view.readAt (Elt F) (rowsHi k).toLoadRect ((hs0_3 t).unread (iblk m' c 3 t)) = hi (b1 m hO c (kt m hO k)) :=
  funext fun x => (Cert.Reference.Trip.ld_eq (hs0_3 t) _ _ x).trans ((congrFun ((Cert.Reference.Trip.blk3 m' c t).trans hs.a3) _).trans
    (Cert.Kernel.Experts.b1_apply m hO c (kt m hO k) (hiR.emb x) _
      (by show Cert.Reference.k0_off7 k 256#32 0 + 1 * (x 0).val = 512 * k.val + (256 + 1 * (x 0).val); have := off_hi k; omega) rfl).symm)

/-- A weight's row index in the arrays: the expert. -/
theorem row_eq (n : Nat) (hn : n < 1) :
    (wordAt (ms0_0 t) ((hs0_0 t).unread (iblk m' c 0 t)) k).toNat + 1 * n = (beW m c (Cert.Kernel.grid0.coords (kt m hO k))).toNat := by
  rw [be_eq m m' hO c hs t k]; omega

omit hs in
/-- Rows of the results. -/
theorem at_lo (x : Cert.Reference.S256x256.Idx) : ((rowsLo k).emb x 0).val = 512 * k.val + ((loR.emb x) 0).val := by
  show Cert.Reference.k0_off7 k 0#32 0 + 1 * (x 0).val = 512 * k.val + (0 + 1 * (x 0).val); have := off_lo k; omega
omit hs in
theorem at_hi (x : Cert.Reference.S256x256.Idx) : ((rowsHi k).emb x 0).val = 512 * k.val + ((hiR.emb x) 0).val := by
  show Cert.Reference.k0_off7 k 256#32 0 + 1 * (x 0).val = 512 * k.val + (256 + 1 * (x 0).val); have := off_hi k; omega

set_option maxHeartbeats 1600000 in
/-- Every trip of the reference stores what the call's results hold there. -/
theorem agrees : Agrees m' hH c (finA m hO c) (finB m hO c) := by
  intro t k
  refine Cert.Reference.Trip.trip_agree (F := F) c _ _ _ _ _ _ _ _ _ _ _ _ _ _ _ _ _ _ _ _ _ _ _ _ _ _ _ _ _ _ k (Hyps.c0 hH c t k.val k.isLt)
    (b2 m hO c (kt m hO k)) (b3 m hO c (kt m hO k)) (b4 m hO c (kt m hO k)) (b5 m hO c (kt m hO k))
    (funext fun y => ?_) (funext fun y => ?_) (funext fun y => ?_) (funext fun y => ?_) (fun x => ?_) (fun x => ?_) (fun x => ?_) (fun x => ?_)
  · exact (Cert.Reference.Trip.ld_eq _ _ _ y).trans ((congrFun ((Cert.Reference.Trip.blk4 m' c t).trans hs.a4) _).trans
      (Cert.Kernel.Experts.b2_apply m hO c (kt m hO k) y _ (row_eq m m' hO c hs t k _ (y 0).isLt) (by show 0 + 1 * (y 1).val = (y 1).val; omega) (by show 0 + 1 * (y 2).val = (y 2).val; omega)).symm)
  · exact (Cert.Reference.Trip.ld_eq _ _ _ y).trans ((congrFun ((Cert.Reference.Trip.blk5 m' c t).trans hs.a5) _).trans
      (Cert.Kernel.Experts.b3_apply m hO c (kt m hO k) y _ (row_eq m m' hO c hs t k _ (y 0).isLt) (by show 0 + 1 * (y 1).val = (y 1).val; omega) (by show 0 + 1 * (y 2).val = (y 2).val; omega)).symm)
  · exact (Cert.Reference.Trip.ld_eq _ _ _ y).trans ((congrFun ((Cert.Reference.Trip.blk6 m' c t).trans hs.a6) _).trans
      (Cert.Kernel.Experts.b4_apply m hO c (kt m hO k) y _ (row_eq m m' hO c hs t k _ (y 0).isLt) (by show 0 + 1 * (y 1).val = (y 1).val; omega) (by show 0 + 1 * (y 2).val = (y 2).val; omega)).symm)
  · exact (Cert.Reference.Trip.ld_eq _ _ _ y).trans ((congrFun ((Cert.Reference.Trip.blk7 m' c t).trans hs.a7) _).trans
      (Cert.Kernel.Experts.b5_apply m hO c (kt m hO k) y _ (row_eq m m' hO c hs t k _ (y 0).isLt) (by show 0 + 1 * (y 1).val = (y 1).val; omega) (by show 0 + 1 * (y 2).val = (y 2).val; omega)).symm)
  · rw [nv_eq m m' hO c hs t k, xa_lo m m' hO c hs t k, xb_lo m m' hO c hs t k]
    exact (Cert.Kernel.Experts.blkA_lo _ _ _ _ _ _ _ x).symm.trans (Cert.Kernel.Experts.arr6_at m hO c (kt m hO k) (loR.emb x) _ (at_lo k x) rfl).symm
  · rw [nv_eq m m' hO c hs t k, xa_lo m m' hO c hs t k, xb_lo m m' hO c hs t k]
    exact (Cert.Kernel.Experts.blkB_lo _ _ _ _ _ _ _ x).symm.trans (Cert.Kernel.Experts.arr7_at m hO c (kt m hO k) (loR.emb x) _ (at_lo k x) rfl).symm
  · rw [nv_eq m m' hO c hs t k, xa_hi m m' hO c hs t k, xb_hi m m' hO c hs t k]
    exact (Cert.Kernel.Experts.blkA_hi _ _ _ _ _ _ _ x).symm.trans (Cert.Kernel.Experts.arr6_at m hO c (kt m hO k) (hiR.emb x) _ (at_hi k x) rfl).symm
  · rw [nv_eq m m' hO c hs t k, xa_hi m m' hO c hs t k, xb_hi m m' hO c hs t k]
    exact (Cert.Kernel.Experts.blkB_hi _ _ _ _ _ _ _ x).symm.trans (Cert.Kernel.Experts.arr7_at m hO c (kt m hO k) (hiR.emb x) _ (at_hi k x) rfl).symm

end Cert.Value

end
-- ==== Proof.Final.Row.lean ====
/- One row of the result, as a function of the row's inputs: what a token's four experts packed, weighted and summed,
   added under the gate to the mixer's output, and normed. Each call's block and each half of the reference's array
   hold such rows. -/
module

public import proofs.«01_k».proof.Proof.Gen.Kernel2Ideal.Skeleton
public import proofs.«01_k».proof.Proof.Gen.Reference2Ideal.Skeleton
public import Idealize.ShloMosaic.Lib.Pointwise

@[expose] public section

noncomputable section

namespace Cert.Final

open Idealize.ShloMosaic Idealize.ShloMosaic.TcCoe

/-- Column `d` of a row of an expert's output, packed in two rows of words: the high halves of the first, of the second,
    then the low halves of the first, of the second. -/
def entry (a b : Fin 256 → BitVec 32) (d : Fin 1024) : EReal :=
  if h : d.val < 256 then Ideal.ofBits .bf16 ((a ⟨d.val, h⟩).extractLsb' 16 16)
  else if h : d.val - 256 < 256 then Ideal.ofBits .bf16 ((b ⟨d.val - 256, h⟩).extractLsb' 16 16)
  else if h : d.val - 256 - 256 < 256 then Ideal.ofBits .bf16 ((a ⟨d.val - 256 - 256, h⟩).extractLsb' 0 16)
  else Ideal.ofBits .bf16 ((b ⟨d.val - 256 - 256 - 256, by have := d.isLt; omega⟩).extractLsb' 0 16)

/-- The weighted sum of a token's four experts at column `d`. -/
def mix (w : Fin 4 → EReal) (a b : Fin 4 → Fin 256 → BitVec 32) (d : Fin 1024) : EReal :=
  w 0 * entry (a 0) (b 0) d + w 1 * entry (a 1) (b 1) d + w 2 * entry (a 2) (b 2) d + w 3 * entry (a 3) (b 3) d

/-- The row before the norm, -/
def pre (x g : Fin 1024 → EReal) (w : Fin 4 → EReal) (a b : Fin 4 → Fin 256 → BitVec 32) (d : Fin 1024) : EReal :=
  x d + g d * mix w a b d

/-- and after it. -/
def row (x g fg : Fin 1024 → EReal) (w : Fin 4 → EReal) (a b : Fin 4 → Fin 256 → BitVec 32) (d : Fin 1024) : EReal :=
  pre x g w a b d
    * Ideal.rsqrt (Ideal.div (∑ e, pre x g w a b e * pre x g w a b e) (Ideal.ofBits .f32 0x44800000#32) + Ideal.ofBits .f32 0x358637BD#32)
    * fg d

/-- The first two experts of the call's block, -/
theorem kernel_two (v0 : Vec Ideal Cert.Kernel2Ideal.S256x4 .f32) (a0 b0 a1 b1 : Vec Ideal Cert.Kernel2Ideal.S1x256x256 .i32)
    (r : Fin 256) (d : Fin 1024) :
    Cert.Kernel2Ideal.Gen.k0_pay3 v0 a0 b0 a1 b1 (ix2 r d)
      = v0 (ix2 r 0) * entry (fun e => a0 (ix3 0 r e)) (fun e => b0 (ix3 0 r e)) d
        + v0 (ix2 r 1) * entry (fun e => a1 (ix3 0 r e)) (fun e => b1 (ix3 0 r e)) d := by
  pointwise [Cert.Kernel2Ideal.Gen.k0_pay3, Cert.Kernel2Ideal.Gen.k0_pay2]
  rfl

/-- the third, -/
theorem kernel_third (v0 : Vec Ideal Cert.Kernel2Ideal.S256x4 .f32) (a2 b2 : Vec Ideal Cert.Kernel2Ideal.S1x256x256 .i32)
    (r : Fin 256) (d : Fin 1024) :
    Cert.Kernel2Ideal.Gen.k0_pay4 v0 a2 b2 (ix2 r d) = v0 (ix2 r 2) * entry (fun e => a2 (ix3 0 r e)) (fun e => b2 (ix3 0 r e)) d := by
  pointwise [Cert.Kernel2Ideal.Gen.k0_pay4, Cert.Kernel2Ideal.Gen.k0_pay2]
  rfl

/-- and the block: row `r` is `row` of the inputs' rows. -/
theorem kernel_row (v0 : Vec Ideal Cert.Kernel2Ideal.S256x4 .f32) (a0 b0 a1 b1 a2 b2 a3 b3 : Vec Ideal Cert.Kernel2Ideal.S1x256x256 .i32)
    (x : Vec Ideal Cert.Kernel2Ideal.S256x1024 .f32) (g : Vec Ideal Cert.Kernel2Ideal.S1x1x1024 .f32) (fg : Vec Ideal Cert.Kernel2Ideal.S1x1024 .f32)
    (r : Fin 256) (d : Fin 1024) :
    Cert.Kernel2Ideal.Gen.k0_pay1 (Cert.Kernel2Ideal.Gen.k0_pay2 v0) (Cert.Kernel2Ideal.Gen.k0_pay3 v0 a0 b0 a1 b1) (Cert.Kernel2Ideal.Gen.k0_pay4 v0 a2 b2) a3 b3 x g fg (ix2 r d)
      = row (fun d => x (ix2 r d)) (fun d => g (ix3 0 0 d)) (fun d => fg (ix2 0 d)) (fun k => v0 (ix2 r k))
          (fun k e => (![a0, a1, a2, a3] k : Vec Ideal Cert.Kernel2Ideal.S1x256x256 .i32) (ix3 0 r e))
          (fun k e => (![b0, b1, b2, b3] k : Vec Ideal Cert.Kernel2Ideal.S1x256x256 .i32) (ix3 0 r e)) d := by
  pointwise [Cert.Kernel2Ideal.Gen.k0_pay1, Cert.Kernel2Ideal.Gen.k0_pay2, kernel_two, kernel_third]
  rfl

/-- The second group's call stores the same function of its inputs as the first's. -/
theorem second_call (v0 : Vec Ideal Cert.Kernel2Ideal.S256x4 .f32) (a0 b0 a1 b1 a2 b2 a3 b3 : Vec Ideal Cert.Kernel2Ideal.S1x256x256 .i32)
    (x : Vec Ideal Cert.Kernel2Ideal.S256x1024 .f32) (g : Vec Ideal Cert.Kernel2Ideal.S1x1x1024 .f32) (fg : Vec Ideal Cert.Kernel2Ideal.S1x1024 .f32) :
    Cert.Kernel2Ideal.Gen.k1_pay1 (Cert.Kernel2Ideal.Gen.k1_pay2 v0) (Cert.Kernel2Ideal.Gen.k1_pay3 v0 a0 b0 a1 b1) (Cert.Kernel2Ideal.Gen.k1_pay4 v0 a2 b2) a3 b3 x g fg
      = Cert.Kernel2Ideal.Gen.k0_pay1 (Cert.Kernel2Ideal.Gen.k0_pay2 v0) (Cert.Kernel2Ideal.Gen.k0_pay3 v0 a0 b0 a1 b1) (Cert.Kernel2Ideal.Gen.k0_pay4 v0 a2 b2) a3 b3 x g fg := rfl

/-- The reference's weighted sum of a token's four experts, -/
theorem reference_mix (w : Vec Ideal Cert.Reference2Ideal.S32768x4 .f32)
    (a0 b0 a1 b1 a2 b2 a3 b3 : Vec Ideal Cert.Reference2Ideal.S1x32768x256 .i32) (n : Fin 32768) (d : Fin 1024) :
    Cert.Reference2Ideal.Gen.k0_pay5 (Cert.Reference2Ideal.Gen.k0_pay2 w) (Cert.Reference2Ideal.Gen.k0_pay3 w a0 b0 a0 b0)
          (Cert.Reference2Ideal.Gen.k0_pay4 a1 b1 a1 b1) a2 b2 a2 b2 (ix2 n d)
        + Cert.Reference2Ideal.Gen.k0_pay6 a3 b3 a3 b3 (ix2 n d) * Cert.Reference2Ideal.Gen.k0_pay7 (Cert.Reference2Ideal.Gen.k0_pay2 w) (ix2 n d)
      = mix (fun k => w (ix2 n k))
          (fun k e => (![a0, a1, a2, a3] k : Vec Ideal Cert.Reference2Ideal.S1x32768x256 .i32) (ix3 0 n e))
          (fun k e => (![b0, b1, b2, b3] k : Vec Ideal Cert.Reference2Ideal.S1x32768x256 .i32) (ix3 0 n e)) d := by
  pointwise [Cert.Reference2Ideal.Gen.k0_pay2, Cert.Reference2Ideal.Gen.k0_pay3, Cert.Reference2Ideal.Gen.k0_pay4,
    Cert.Reference2Ideal.Gen.k0_pay5, Cert.Reference2Ideal.Gen.k0_pay6, Cert.Reference2Ideal.Gen.k0_pay7]
  unfold mix
  rw [mul_comm (w (ix2 n 0)), mul_comm (w (ix2 n 1)), mul_comm (w (ix2 n 2)), mul_comm (w (ix2 n 3))]
  rfl

/-- and its array for the first group: row `n` is `row` of the inputs' rows, the gate that of the row's batch. -/
theorem reference_row (w : Vec Ideal Cert.Reference2Ideal.S32768x4 .f32)
    (a0 b0 a1 b1 a2 b2 a3 b3 : Vec Ideal Cert.Reference2Ideal.S1x32768x256 .i32)
    (x : Vec Ideal Cert.Reference2Ideal.S32768x1024 .f32) (g : Vec Ideal Cert.Reference2Ideal.S8x1x1024 .f32)
    (fg : Vec Ideal Cert.Reference2Ideal.S1x1024 .f32) (n : Fin 32768) (d : Fin 1024) :
    Cert.Reference2Ideal.Gen.k0_pay8
        (Cert.Reference2Ideal.Gen.k0_pay5 (Cert.Reference2Ideal.Gen.k0_pay2 w) (Cert.Reference2Ideal.Gen.k0_pay3 w a0 b0 a0 b0)
          (Cert.Reference2Ideal.Gen.k0_pay4 a1 b1 a1 b1) a2 b2 a2 b2)
        (Cert.Reference2Ideal.Gen.k0_pay6 a3 b3 a3 b3) (Cert.Reference2Ideal.Gen.k0_pay7 (Cert.Reference2Ideal.Gen.k0_pay2 w)) x g fg (ix2 n d)
      = row (fun d => x (ix2 n d)) (fun d => g (ix3 ⟨n.val / 4096, by have := n.isLt; omega⟩ 0 d)) (fun d => fg (ix2 0 d))
          (fun k => w (ix2 n k))
          (fun k e => (![a0, a1, a2, a3] k : Vec Ideal Cert.Reference2Ideal.S1x32768x256 .i32) (ix3 0 n e))
          (fun k e => (![b0, b1, b2, b3] k : Vec Ideal Cert.Reference2Ideal.S1x32768x256 .i32) (ix3 0 n e)) d := by
  pointwise [Cert.Reference2Ideal.Gen.k0_pay8, reference_mix]
  rfl

/-- For the second group it stores the same function of that group's inputs. -/
theorem reference_second (w : Vec Ideal Cert.Reference2Ideal.S32768x4 .f32)
    (a0 b0 a1 b1 a2 b2 a3 b3 : Vec Ideal Cert.Reference2Ideal.S1x32768x256 .i32)
    (x : Vec Ideal Cert.Reference2Ideal.S32768x1024 .f32) (g : Vec Ideal Cert.Reference2Ideal.S8x1x1024 .f32)
    (fg : Vec Ideal Cert.Reference2Ideal.S1x1024 .f32) :
    Cert.Reference2Ideal.Gen.k0_pay1
        (Cert.Reference2Ideal.Gen.k0_pay15 (Cert.Reference2Ideal.Gen.k0_pay9 w)
          (Cert.Reference2Ideal.Gen.k0_pay12 (Cert.Reference2Ideal.Gen.k0_pay9 w) (Cert.Reference2Ideal.Gen.k0_pay10 a0) (Cert.Reference2Ideal.Gen.k0_pay11 b0) a0 b0 a1 b1 a1 b1)
          (Cert.Reference2Ideal.Gen.k0_pay13 a2) (Cert.Reference2Ideal.Gen.k0_pay14 b2) a2 b2 a3 b3 a3 b3 x g)
        (Cert.Reference2Ideal.Gen.k0_pay16 (Cert.Reference2Ideal.Gen.k0_pay9 w)
          (Cert.Reference2Ideal.Gen.k0_pay12 (Cert.Reference2Ideal.Gen.k0_pay9 w) (Cert.Reference2Ideal.Gen.k0_pay10 a0) (Cert.Reference2Ideal.Gen.k0_pay11 b0) a0 b0 a1 b1 a1 b1)
          (Cert.Reference2Ideal.Gen.k0_pay13 a2) (Cert.Reference2Ideal.Gen.k0_pay14 b2) a2 b2 a3 b3 a3 b3 x g)
        (Scalar.ofBits .f32 0x44800000#32) fg
      = Cert.Reference2Ideal.Gen.k0_pay8
          (Cert.Reference2Ideal.Gen.k0_pay5 (Cert.Reference2Ideal.Gen.k0_pay2 w) (Cert.Reference2Ideal.Gen.k0_pay3 w a0 b0 a0 b0)
            (Cert.Reference2Ideal.Gen.k0_pay4 a1 b1 a1 b1) a2 b2 a2 b2)
          (Cert.Reference2Ideal.Gen.k0_pay6 a3 b3 a3 b3) (Cert.Reference2Ideal.Gen.k0_pay7 (Cert.Reference2Ideal.Gen.k0_pay2 w)) x g fg := rfl

end Cert.Final

end
-- ==== Proof.Final.Block.lean ====
/- A final call's block: at one grid point, row by row, from the blocks of its inputs. The second group's call also
   takes the array the first left, unread. -/
module

public import proofs.«01_k».proof.Proof.Final.Row
public import proofs.«01_k».proof.Proof.Gen.Kernel2Ideal.Frame
public import Idealize.ShloMosaic.Lib.Claim

@[expose] public section

set_option maxRecDepth 16384

noncomputable section

namespace Cert.Final

open Idealize.ShloMosaic Idealize.ShloMosaic.TcCoe
open Cert.Kernel2Ideal Cert.Kernel2Ideal.Gen

/-- One expert's plane of a block of packed rows. -/
def plane (X : Vec Ideal S4x256x256 .i32) (k : Fin 4) : Vec Ideal S1x256x256 .i32 := fun j => X (ix3 k (j 1) (j 2))

/-- A load of the box of one plane reads the plane. -/
theorem ld_plane (X : Vec Ideal S4x256x256 .i32) (k : Fin 4)
    (inb : ∀ a : Fin 3, (![k.val, 0, 0] : Fin 3 → Nat) a + S1x256x256.size a ≤ S4x256x256.size a) :
    View.ld (Val := Elt Ideal) (e' := .i32) X (Rect.unit (s := S4x256x256) ![k.val, 0, 0] S1x256x256.size inb) = plane X k := by
  funext j
  refine congrArg X (funext fun a => Fin.ext ?_)
  have h : (j 0).val < 1 := (j 0).isLt
  fin_cases a
  · show k.val + 1 * (j 0).val = k.val; omega
  · show 0 + 1 * (j 1).val = (j 1).val; omega
  · show 0 + 1 * (j 2).val = (j 2).val; omega

theorem zero2 : (![0, 0] : Fin 2 → Nat) = fun _ => 0 := funext fun a => by fin_cases a <;> rfl
theorem zero3 : (![0, 0, 0] : Fin 3 → Nat) = fun _ => 0 := funext fun a => by fin_cases a <;> rfl

/-- Loads of an expert's four planes, at a row. -/
theorem planes_at (X : Vec Ideal S4x256x256 .i32) (r : Fin 256) :
    (fun (k : Fin 4) (e : Fin 256) => (![plane X 0, plane X 1, plane X 2, plane X 3] k : Vec Ideal S1x256x256 .i32) (ix3 0 r e)) = fun k e => X (ix3 k r e) := by
  funext k e; fin_cases k <;> rfl

/-- Row `r` of the first group's block is `row` of the input blocks' rows `r`. -/
theorem out_at0 (x0 : Vec Ideal S256x1024 .f32) (x1 x2 : Vec Ideal S4x256x256 .i32) (x3 : Vec Ideal S256x4 .f32) (x4 : Vec Ideal S1x1x1024 .f32) (x5 : Vec Ideal S1x1024 .f32)
    (r : Fin 256) (d : Fin 1024) :
    out0_6 (F := Ideal) x0 x1 x2 x3 x4 x5 (ix2 r d)
      = row (fun d => x0 (ix2 r d)) (fun d => x4 (ix3 0 0 d)) (fun d => x5 (ix2 0 d)) (fun k => x3 (ix2 r k))
          (fun k e => x1 (ix3 k r e)) (fun k e => x2 (ix3 k r e)) d := by
  have e : out0_6 (F := Ideal) x0 x1 x2 x3 x4 x5
      = k0_pay1 (k0_pay2 x3) (k0_pay3 x3 (plane x1 0) (plane x2 0) (plane x1 1) (plane x2 1)) (k0_pay4 x3 (plane x1 2) (plane x2 2)) (plane x1 3) (plane x2 3) x0 x4 x5 := by
    unfold out0_6
    refine (View.canon_cons_unit_zero (S := S256x1024) zero2 inb_S256x1024_S256x1024_0_0 _ []).trans ?_
    have e0 : View.ld (Val := Elt Ideal) (e' := .f32) x0 r0_5 = x0 := View.ld_unit_zero (S := S256x1024) zero2 _ x0
    have e3 : View.ld (Val := Elt Ideal) (e' := .f32) x3 r0_0 = x3 := View.ld_unit_zero (S := S256x4) zero2 _ x3
    have e4 : View.ld (Val := Elt Ideal) (e' := .f32) x4 r0_6 = x4 := View.ld_unit_zero (S := S1x1x1024) zero3 _ x4
    have e5 : View.ld (Val := Elt Ideal) (e' := .f32) x5 r0_7 = x5 := View.ld_unit_zero (S := S1x1024) zero2 _ x5
    have p : ∀ X : Vec Ideal S4x256x256 .i32, plane X 0 = View.ld (Val := Elt Ideal) (e' := .i32) X r0_1 ∧ plane X 1 = View.ld (Val := Elt Ideal) (e' := .i32) X r0_2
        ∧ plane X 2 = View.ld (Val := Elt Ideal) (e' := .i32) X r0_3 ∧ plane X 3 = View.ld (Val := Elt Ideal) (e' := .i32) X r0_4 := fun X =>
      ⟨(ld_plane X 0 _).symm, (ld_plane X 1 _).symm, (ld_plane X 2 _).symm, (ld_plane X 3 _).symm⟩
    rw [e0, e3, e4, e5, (p x1).1, (p x1).2.1, (p x1).2.2.1, (p x1).2.2.2, (p x2).1, (p x2).2.1, (p x2).2.2.1, (p x2).2.2.2]
  rw [e, kernel_row, planes_at x1, planes_at x2]

/-- What the second group's run leaves in the block is its one store's payload, -/
theorem out_eq1 (c : Dev nD) (i : grid1.Coords) (arg1 : Memref sig .tc .vmem S256x1024 .f32) (harg1 : arg1.IsWhole) (arg2 : Memref sig .tc .vmem S4x256x256 .i32) (harg2 : arg2.IsWhole)
    (arg3 : Memref sig .tc .vmem S4x256x256 .i32) (harg3 : arg3.IsWhole) (arg4 : Memref sig .tc .vmem S256x4 .f32) (harg4 : arg4.IsWhole) (arg5 : Memref sig .tc .vmem S1x1x1024 .f32) (harg5 : arg5.IsWhole)
    (arg6 : Memref sig .tc .vmem S1x1024 .f32) (harg6 : arg6.IsWhole) (arg8 : Memref sig .tc .vmem S256x1024 .f32) (harg8 : arg8.IsWhole)
    (x0 : Vec Ideal S256x1024 .f32) (x1 x2 : Vec Ideal S4x256x256 .i32) (x3 : Vec Ideal S256x4 .f32) (x4 : Vec Ideal S1x1x1024 .f32) (x5 : Vec Ideal S1x1024 .f32) :
    out1_A_6 (F := Ideal) c i arg1 harg1 arg2 harg2 arg3 harg3 arg4 harg4 arg5 harg5 arg6 harg6 arg8 harg8 x0 x1 x2 x3 x4 x5
      = k0_pay1 (k0_pay2 x3) (k0_pay3 x3 (plane x1 0) (plane x2 0) (plane x1 1) (plane x2 1)) (k0_pay4 x3 (plane x1 2) (plane x2 2)) (plane x1 3) (plane x2 3) x0 x4 x5 := by
  unfold out1_A_6
  rw [View.read_writes_junk_eq_canon]
  rw [← second_call]
  refine (View.canon_cons_unit_zero (S := S256x1024) zero2 inb_S256x1024_S256x1024_0_0 _ []).trans ?_
  simp only [View.readAt_eq_ld, harg1.read_unread, harg2.read_unread, harg3.read_unread, harg4.read_unread, harg5.read_unread, harg6.read_unread]
  have e0 : View.ld (Val := Elt Ideal) (e' := .f32) x0 (Rect.unit (s := S256x1024) ![0, 0] S256x1024.size inb_S256x1024_S256x1024_0_0) = x0 := View.ld_unit_zero (S := S256x1024) zero2 _ x0
  have e3 : View.ld (Val := Elt Ideal) (e' := .f32) x3 (Rect.unit (s := S256x4) ![0, 0] S256x4.size inb_S256x4_S256x4_0_0) = x3 := View.ld_unit_zero (S := S256x4) zero2 _ x3
  have e4 : View.ld (Val := Elt Ideal) (e' := .f32) x4 (Rect.unit (s := S1x1x1024) ![0, 0, 0] S1x1x1024.size inb_S1x1x1024_S1x1x1024_0_0_0) = x4 := View.ld_unit_zero (S := S1x1x1024) zero3 _ x4
  have e5 : View.ld (Val := Elt Ideal) (e' := .f32) x5 (Rect.unit (s := S1x1024) ![0, 0] S1x1024.size inb_S1x1024_S1x1024_0_0) = x5 := View.ld_unit_zero (S := S1x1024) zero2 _ x5
  have r : kernelRun1_A.sl.r c arg4 harg4 x3 = k1_pay2 x3 := by
    unfold kernelRun1_A.sl.r
    simp only [View.readAt_eq_ld, harg4.read_unread]
    rw [e3]
  have r1 : kernelRun1_A.sl.r_1 c arg2 harg2 arg3 harg3 arg4 harg4 x1 x2 x3 = k1_pay3 x3 (plane x1 0) (plane x2 0) (plane x1 1) (plane x2 1) := by
    unfold kernelRun1_A.sl.r_1
    simp only [View.readAt_eq_ld, harg2.read_unread, harg3.read_unread, harg4.read_unread]
    rw [e3, ← ld_plane x1 0 inb_S4x256x256_S1x256x256_0_0_0, ← ld_plane x2 0 inb_S4x256x256_S1x256x256_0_0_0,
      ← ld_plane x1 1 inb_S4x256x256_S1x256x256_1_0_0, ← ld_plane x2 1 inb_S4x256x256_S1x256x256_1_0_0]
    rfl
  have r2 : kernelRun1_A.sl.r_2 c arg2 harg2 arg3 harg3 arg4 harg4 x1 x2 x3 = k1_pay4 x3 (plane x1 2) (plane x2 2) := by
    unfold kernelRun1_A.sl.r_2
    simp only [View.readAt_eq_ld, harg2.read_unread, harg3.read_unread, harg4.read_unread]
    rw [e3, ← ld_plane x1 2 inb_S4x256x256_S1x256x256_2_0_0, ← ld_plane x2 2 inb_S4x256x256_S1x256x256_2_0_0]
    rfl
  rw [r, r1, r2, e0, e4, e5, ← ld_plane x1 3 inb_S4x256x256_S1x256x256_3_0_0, ← ld_plane x2 3 inb_S4x256x256_S1x256x256_3_0_0]
  rfl

/-- so row `r` of the block is `row` of the input blocks' rows `r`. -/
theorem out_at1 (c : Dev nD) (i : grid1.Coords) (arg1 : Memref sig .tc .vmem S256x1024 .f32) (harg1 : arg1.IsWhole) (arg2 : Memref sig .tc .vmem S4x256x256 .i32) (harg2 : arg2.IsWhole)
    (arg3 : Memref sig .tc .vmem S4x256x256 .i32) (harg3 : arg3.IsWhole) (arg4 : Memref sig .tc .vmem S256x4 .f32) (harg4 : arg4.IsWhole) (arg5 : Memref sig .tc .vmem S1x1x1024 .f32) (harg5 : arg5.IsWhole)
    (arg6 : Memref sig .tc .vmem S1x1024 .f32) (harg6 : arg6.IsWhole) (arg8 : Memref sig .tc .vmem S256x1024 .f32) (harg8 : arg8.IsWhole)
    (x0 : Vec Ideal S256x1024 .f32) (x1 x2 : Vec Ideal S4x256x256 .i32) (x3 : Vec Ideal S256x4 .f32) (x4 : Vec Ideal S1x1x1024 .f32) (x5 : Vec Ideal S1x1024 .f32)
    (r : Fin 256) (d : Fin 1024) :
    out1_A_6 (F := Ideal) c i arg1 harg1 arg2 harg2 arg3 harg3 arg4 harg4 arg5 harg5 arg6 harg6 arg8 harg8 x0 x1 x2 x3 x4 x5 (ix2 r d)
      = row (fun d => x0 (ix2 r d)) (fun d => x4 (ix3 0 0 d)) (fun d => x5 (ix2 0 d)) (fun k => x3 (ix2 r k))
          (fun k e => x1 (ix3 k r e)) (fun k e => x2 (ix3 k r e)) d := by
  rw [out_eq1, kernel_row]
  rw [planes_at x1, planes_at x2]

end Cert.Final

end
-- ==== Proof.Final.Kernel.lean ====
/- What each of the two final calls leaves in the result array: a row for each of its group's tokens, from the arrays as the
   call finds them. -/
module

public import proofs.«01_k».proof.Proof.Final.Block

@[expose] public section

set_option maxRecDepth 16384

noncomputable section

namespace Cert.Final

open Idealize.ShloMosaic Idealize.ShloMosaic.TcCoe Idealize.SL.Sem
open Idealize.ShloMosaic.Pipeline (Dat)
open Cert.Kernel2Ideal Cert.Kernel2Ideal.Gen

/-- Token `n`'s row, from a group's whole inputs as its call takes them; `b` the token's batch. -/
def staged (x : Vec Ideal S32768x1024 .f32) (ya yb : Vec Ideal S4x32768x256 .i32) (w : Vec Ideal S32768x4 .f32)
    (g : Vec Ideal S16x1x1024 .f32) (fg : Vec Ideal S1x1024 .f32) (b : Fin 16) (n : Fin 32768) (d : Fin 1024) : EReal :=
  row (fun d => x (ix2 n d)) (fun d => g (ix3 b 0 d)) (fun d => fg (ix2 0 d)) (fun k => w (ix2 n k))
    (fun k e => ya (ix3 k n e)) (fun k e => yb (ix3 k n e)) d

variable (V : (c : Dev nD) → (b : Ref sig .tc) → Buf (Elt Ideal) ((c : Thread nD τ).loc b))

/-! ## The first group's call: where its blocks lie -/

theorem points0 : grid0.N = 128 := by decide
theorem at0_0 : ∀ t : Fin grid0.N, cc0_transform_0 (grid0.coords t) 0 = t.val := by decide +kernel
theorem at0_1 : ∀ t : Fin grid0.N, cc0_transform_1 (grid0.coords t) 1 = t.val := by decide +kernel
theorem at0_2 : ∀ t : Fin grid0.N, cc0_transform_2 (grid0.coords t) 1 = t.val := by decide +kernel
theorem at0_3 : ∀ t : Fin grid0.N, cc0_transform_3 (grid0.coords t) 0 = t.val := by decide +kernel
theorem at0_4 : ∀ t : Fin grid0.N, cc0_transform_4 (grid0.coords t) 0 = t.val / 16 := by decide +kernel
theorem at0_6 : ∀ t : Fin grid0.N, cc0_transform_6 (grid0.coords t) 0 = t.val := by decide +kernel
theorem index0 : ∀ t t' : Fin cfg0.N, win0_6.index t = win0_6.index t' → t = t' :=
  (by decide +kernel : ∀ t t' : Fin grid0.N, win0_6.index t = win0_6.index t' → t = t')
/-- No two points write a common entry. -/
theorem apart0 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (index0 t t' h)

/-- The blocks' entries are the arrays': the mixer's output, -/
theorem blk0_0 (c : Dev nD) (t : Fin cfg0.N) (n : Fin 32768) (r : Fin 256) (d : Fin 1024) (h : n.val = 256 * t.val + r.val) :
    iblk0 V c 0 t (ix2 r d) = V c main_arg0 (ix2 n d) := by
  refine congrArg (V c main_arg0) (funext fun a => Fin.ext ?_)
  fin_cases a
  · show cc0_transform_0 (grid0.coords t) 0 * 256 + 1 * r.val = n.val
    rw [at0_0]; omega
  · show 0 * 1024 + 1 * d.val = d.val; omega
/-- the experts' words, -/
theorem blk0_1 (c : Dev nD) (t : Fin cfg0.N) (n : Fin 32768) (k : Fin 4) (r : Fin 256) (e : Fin 256) (h : n.val = 256 * t.val + r.val) :
    iblk0 V c 1 t (ix3 k r e) = V c main_arg1 (ix3 k n e) := by
  refine congrArg (V c main_arg1) (funext fun a => Fin.ext ?_)
  fin_cases a
  · show 0 * 4 + 1 * k.val = k.val; omega
  · show cc0_transform_1 (grid0.coords t) 1 * 256 + 1 * r.val = n.val
    rw [at0_1]; omega
  · show 0 * 256 + 1 * e.val = e.val; omega
/-- both halves, -/
theorem blk0_2 (c : Dev nD) (t : Fin cfg0.N) (n : Fin 32768) (k : Fin 4) (r : Fin 256) (e : Fin 256) (h : n.val = 256 * t.val + r.val) :
    iblk0 V c 2 t (ix3 k r e) = V c main_arg2 (ix3 k n e) := by
  refine congrArg (V c main_arg2) (funext fun a => Fin.ext ?_)
  fin_cases a
  · show 0 * 4 + 1 * k.val = k.val; omega
  · show cc0_transform_2 (grid0.coords t) 1 * 256 + 1 * r.val = n.val
    rw [at0_2]; omega
  · show 0 * 256 + 1 * e.val = e.val; omega
/-- the weights, -/
theorem blk0_3 (c : Dev nD) (t : Fin cfg0.N) (n : Fin 32768) (r : Fin 256) (k : Fin 4) (h : n.val = 256 * t.val + r.val) :
    iblk0 V c 3 t (ix2 r k) = V c main_v2 (ix2 n k) := by
  refine congrArg (V c main_v2) (funext fun a => Fin.ext ?_)
  fin_cases a
  · show cc0_transform_3 (grid0.coords t) 0 * 256 + 1 * r.val = n.val
    rw [at0_3]; omega
  · show 0 * 4 + 1 * k.val = k.val; omega
/-- the batch's gate, -/
theorem blk0_4 (c : Dev nD) (t : Fin cfg0.N) (b : Fin 16) (d : Fin 1024) (h : b.val = t.val / 16) :
    iblk0 V c 4 t (ix3 0 0 d) = V c main_v1 (ix3 b 0 d) := by
  refine congrArg (V c main_v1) (funext fun a => Fin.ext ?_)
  fin_cases a
  · show cc0_transform_4 (grid0.coords t) 0 * 1 + 1 * 0 = b.val
    rw [at0_4]; omega
  · show 0 * 1 + 1 * 0 = 0; omega
  · show 0 * 1024 + 1 * d.val = d.val; omega
/-- and the norm's weights. -/
theorem blk0_5 (c : Dev nD) (t : Fin cfg0.N) (d : Fin 1024) :
    iblk0 V c 5 t (ix2 0 d) = V c main_v3 (ix2 0 d) := by
  refine congrArg (V c main_v3) (funext fun a => Fin.ext ?_)
  fin_cases a
  · show 0 * 1 + 1 * 0 = 0; omega
  · show 0 * 1024 + 1 * d.val = d.val; omega

/-- A row of the first group. -/
theorem rows0 (c : Dev nD) (n : Fin 32768) (d : Fin 1024) (z : S65536x1024.Idx) (h0 : (z 0).val = n.val) (h1 : (z 1).val = d.val) :
    (dat0 V c).arrAt 6 cfg0.N z
      = staged (V c main_arg0) (V c main_arg1) (V c main_arg2) (V c main_v2) (V c main_v1) (V c main_v3) ⟨n.val / 4096, by have := n.isLt; omega⟩ n d := by
  have hn := n.isLt
  let t : Fin cfg0.N := ⟨n.val / 256, by show n.val / 256 < grid0.N; rw [points0]; omega⟩
  let r : Fin 256 := ⟨n.val % 256, by omega⟩
  have hr : n.val = 256 * t.val + r.val := by show n.val = 256 * (n.val / 256) + n.val % 256; omega
  have e := (dat0 V c).arrAt_emb_eq_flushed 6 apart0 t (flush0_6 t) (ix2 r d)
  have hz : ((cfg0.win 6).blk t).view.emb (ix2 r d) = z := by
    refine funext fun a => Fin.ext ?_
    fin_cases a
    · show cc0_transform_6 (grid0.coords t) 0 * 256 + 1 * r.val = (z 0).val
      rw [at0_6]; omega
    · show 0 * 1024 + 1 * d.val = (z 1).val; omega
  have e2 : (dat0 V c).flushed 6 t (ix2 r d)
      = staged (V c main_arg0) (V c main_arg1) (V c main_arg2) (V c main_v2) (V c main_v1) (V c main_v3) ⟨n.val / 4096, by omega⟩ n d := by
    show (cfg0.win 6).cut (grid0.coords t) ((dat0 V c).after 6 t) (ix2 r d) = _
    rw [after0_6]
    refine (out_at0 _ _ _ _ _ _ r d).trans ?_
    unfold staged
    have hb : n.val / 4096 = t.val / 16 := by show n.val / 4096 = n.val / 256 / 16; omega
    simp only [blk0_0 V c t n r _ hr, blk0_1 V c t n _ r _ hr, blk0_2 V c t n _ r _ hr, blk0_3 V c t n r _ hr,
      blk0_4 V c t ⟨n.val / 4096, by omega⟩ _ hb, blk0_5 V c t]
  rw [hz, e2] at e
  exact e.trans (cast_eq _ _)

/-! ## The second group's call: where its blocks lie -/

theorem points1 : grid1.N = 128 := by decide
theorem at1_0 : ∀ t : Fin grid1.N, cc1_transform_0 (grid1.coords t) 0 = t.val := by decide +kernel
theorem at1_1 : ∀ t : Fin grid1.N, cc1_transform_1 (grid1.coords t) 1 = t.val := by decide +kernel
theorem at1_2 : ∀ t : Fin grid1.N, cc1_transform_2 (grid1.coords t) 1 = t.val := by decide +kernel
theorem at1_3 : ∀ t : Fin grid1.N, cc1_transform_3 (grid1.coords t) 0 = t.val := by decide +kernel
theorem at1_4 : ∀ t : Fin grid1.N, cc1_transform_4 (grid1.coords t) 0 = 8 + t.val / 16 := by decide +kernel
theorem at1_7 : ∀ t : Fin grid1.N, cc1_transform_7 (grid1.coords t) 0 = 128 + t.val := by decide +kernel
theorem index1 : ∀ t t' : Fin cfg1.N, win1_6.index t = win1_6.index t' → t = t' :=
  (by decide +kernel : ∀ t t' : Fin grid1.N, win1_6.index t = win1_6.index t' → t = t')
/-- No two points write a common entry. -/
theorem apart1 : ∀ t t' : Fin cfg1.N, (cfg1.win 6).flush t = true → (cfg1.win 6).flush t' = true → t ≠ t' →
    Disjoint ((cfg1.win 6).blk t).view.set ((cfg1.win 6).blk t').view.set :=
  fun t t' _ _ hne => (cfg1.win 6).disjoint_blk fun h => hne (index1 t t' h)

/-- The blocks' entries are the arrays': the mixer's output, -/
theorem blk1_0 (c : Dev nD) (t : Fin cfg1.N) (n : Fin 32768) (r : Fin 256) (d : Fin 1024) (h : n.val = 256 * t.val + r.val) :
    iblk1 V c 0 t (ix2 r d) = V c main_arg4 (ix2 n d) := by
  refine congrArg (V c main_arg4) (funext fun a => Fin.ext ?_)
  fin_cases a
  · show cc1_transform_0 (grid1.coords t) 0 * 256 + 1 * r.val = n.val
    rw [at1_0]; omega
  · show 0 * 1024 + 1 * d.val = d.val; omega
/-- the experts' words, -/
theorem blk1_1 (c : Dev nD) (t : Fin cfg1.N) (n : Fin 32768) (k : Fin 4) (r : Fin 256) (e : Fin 256) (h : n.val = 256 * t.val + r.val) :
    iblk1 V c 1 t (ix3 k r e) = V c main_arg5 (ix3 k n e) := by
  refine congrArg (V c main_arg5) (funext fun a => Fin.ext ?_)
  fin_cases a
  · show 0 * 4 + 1 * k.val = k.val; omega
  · show cc1_transform_1 (grid1.coords t) 1 * 256 + 1 * r.val = n.val
    rw [at1_1]; omega
  · show 0 * 256 + 1 * e.val = e.val; omega
/-- both halves, -/
theorem blk1_2 (c : Dev nD) (t : Fin cfg1.N) (n : Fin 32768) (k : Fin 4) (r : Fin 256) (e : Fin 256) (h : n.val = 256 * t.val + r.val) :
    iblk1 V c 2 t (ix3 k r e) = V c main_arg6 (ix3 k n e) := by
  refine congrArg (V c main_arg6) (funext fun a => Fin.ext ?_)
  fin_cases a
  · show 0 * 4 + 1 * k.val = k.val; omega
  · show cc1_transform_2 (grid1.coords t) 1 * 256 + 1 * r.val = n.val
    rw [at1_2]; omega
  · show 0 * 256 + 1 * e.val = e.val; omega
/-- the weights, -/
theorem blk1_3 (c : Dev nD) (t : Fin cfg1.N) (n : Fin 32768) (r : Fin 256) (k : Fin 4) (h : n.val = 256 * t.val + r.val) :
    iblk1 V c 3 t (ix2 r k) = V c main_v5 (ix2 n k) := by
  refine congrArg (V c main_v5) (funext fun a => Fin.ext ?_)
  fin_cases a
  · show cc1_transform_3 (grid1.coords t) 0 * 256 + 1 * r.val = n.val
    rw [at1_3]; omega
  · show 0 * 4 + 1 * k.val = k.val; omega
/-- the batch's gate, -/
theorem blk1_4 (c : Dev nD) (t : Fin cfg1.N) (b : Fin 16) (d : Fin 1024) (h : b.val = 8 + t.val / 16) :
    iblk1 V c 4 t (ix3 0 0 d) = V c main_v1 (ix3 b 0 d) := by
  refine congrArg (V c main_v1) (funext fun a => Fin.ext ?_)
  fin_cases a
  · show cc1_transform_4 (grid1.coords t) 0 * 1 + 1 * 0 = b.val
    rw [at1_4]; omega
  · show 0 * 1 + 1 * 0 = 0; omega
  · show 0 * 1024 + 1 * d.val = d.val; omega
/-- and the norm's weights. -/
theorem blk1_5 (c : Dev nD) (t : Fin cfg1.N) (d : Fin 1024) :
    iblk1 V c 5 t (ix2 0 d) = V c main_v6 (ix2 0 d) := by
  refine congrArg (V c main_v6) (funext fun a => Fin.ext ?_)
  fin_cases a
  · show 0 * 1 + 1 * 0 = 0; omega
  · show 0 * 1024 + 1 * d.val = d.val; omega

/-- A row of the second group. -/
theorem rows1 (c : Dev nD) (n : Fin 32768) (d : Fin 1024) (z : S65536x1024.Idx) (h0 : (z 0).val = 32768 + n.val) (h1 : (z 1).val = d.val) :
    (dat1 V c).arrAt 6 cfg1.N z
      = staged (V c main_arg4) (V c main_arg5) (V c main_arg6) (V c main_v5) (V c main_v1) (V c main_v6) ⟨8 + n.val / 4096, by have := n.isLt; omega⟩ n d := by
  have hn := n.isLt
  let t : Fin cfg1.N := ⟨n.val / 256, by show n.val / 256 < grid1.N; rw [points1]; omega⟩
  let r : Fin 256 := ⟨n.val % 256, by omega⟩
  have hr : n.val = 256 * t.val + r.val := by show n.val = 256 * (n.val / 256) + n.val % 256; omega
  have e := (dat1 V c).arrAt_emb_eq_flushed 6 apart1 t (flush1_6 t) (ix2 r d)
  have hz : ((cfg1.win 6).blk t).view.emb (ix2 r d) = z := by
    refine funext fun a => Fin.ext ?_
    fin_cases a
    · show cc1_transform_7 (grid1.coords t) 0 * 256 + 1 * r.val = (z 0).val
      rw [at1_7]; omega
    · show 0 * 1024 + 1 * d.val = (z 1).val; omega
  have e2 : (dat1 V c).flushed 6 t (ix2 r d)
      = staged (V c main_arg4) (V c main_arg5) (V c main_arg6) (V c main_v5) (V c main_v1) (V c main_v6) ⟨8 + n.val / 4096, by omega⟩ n d := by
    show (cfg1.win 6).cut (grid1.coords t) ((dat1 V c).after 6 t) (ix2 r d) = _
    rw [after1_6]
    unfold outsAt1
    refine (out_at1 c _ _ _ _ _ _ _ _ _ _ _ _ _ _ _ _ _ _ _ _ _ r d).trans ?_
    unfold staged
    have hb : 8 + n.val / 4096 = 8 + t.val / 16 := by show 8 + n.val / 4096 = 8 + n.val / 256 / 16; omega
    simp only [blk1_0 V c t n r _ hr, blk1_1 V c t n _ r _ hr, blk1_2 V c t n _ r _ hr, blk1_3 V c t n r _ hr,
      blk1_4 V c t ⟨8 + n.val / 4096, by omega⟩ _ hb, blk1_5 V c t]
  rw [hz, e2] at e
  exact e.trans (cast_eq _ _)

/-- The second call leaves the first half as it finds it. -/
theorem kept1 (c : Dev nD) (z : S65536x1024.Idx) (h : (z 0).val < 32768) : (dat1 V c).arrAt 6 cfg1.N z = V c main_v7 z := by
  rw [(dat1 V c).arrAt_apply_of_forall_not_mem 6 cfg1.N z (fun t _ _ hm => ?_), A_eq1]
  obtain ⟨y, hy⟩ := View.exists_emb_of_mem_set _ hm
  have e : cc1_transform_7 (grid1.coords t) 0 * 256 + 1 * (y (0 : Fin 2)).val = (z 0).val := congrArg Fin.val (congrFun hy (0 : Fin 2))
  rw [at1_7] at e
  omega

end Cert.Final

end
-- ==== Proof.Final.Run.lean ====
/- The two final calls, one after the other: the run ends with a row for every token of both groups, as a function of the
   arguments. -/
module

public import proofs.«01_k».proof.Proof.Final.Kernel
public import Idealize.ShloMosaic.Lib.Pointwise

@[expose] public section

set_option maxRecDepth 16384

noncomputable section

namespace Cert.Final

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Kernel2Ideal Cert.Kernel2Ideal.Gen

/-- Token `n`'s row, from the arguments; the gate is the last of the six vectors of the token's batch, `b`. -/
def token (x : Vec Ideal S32768x1024 .f32) (ya yb : Vec Ideal S4x32768x256 .i32) (tw : Vec Ideal S4x32768 .f32)
    (g : Vec Ideal S16x6144 .f32) (fg : Vec Ideal S1024 .f32) (b : Fin 16) (n : Fin 32768) (d : Fin 1024) : EReal :=
  row (fun d => x (ix2 n d)) (fun d => g (ix2 b ⟨5120 + d.val, by omega⟩)) (fun d => fg (ix1 d))
    (fun k => tw (ix2 k n)) (fun k e => ya (ix3 k n e)) (fun k e => yb (ix3 k n e)) d

/-- The result: the first group's tokens' rows, then the second's. -/
def whole (x0 : Vec Ideal S32768x1024 .f32) (ya0 yb0 : Vec Ideal S4x32768x256 .i32) (tw0 : Vec Ideal S4x32768 .f32)
    (x1 : Vec Ideal S32768x1024 .f32) (ya1 yb1 : Vec Ideal S4x32768x256 .i32) (tw1 : Vec Ideal S4x32768 .f32)
    (g : Vec Ideal S16x6144 .f32) (fg : Vec Ideal S1024 .f32) : Vec Ideal S65536x1024 .f32 := fun i =>
  if h : (i 0).val < 32768 then token x0 ya0 yb0 tw0 g fg ⟨(i 0).val / 4096, by omega⟩ ⟨(i 0).val, h⟩ (i 1)
  else token x1 ya1 yb1 tw1 g fg ⟨8 + ((i 0).val - 32768) / 4096, by have h0 : (i 0).val < 65536 := (i 0).isLt; omega⟩
    ⟨(i 0).val - 32768, by have h0 : (i 0).val < 65536 := (i 0).isLt; omega⟩ (i 1)

/-- A row read from the arrays a call takes is the row read from the arguments they are made of. -/
theorem staged_eq (x : Vec Ideal S32768x1024 .f32) (ya yb : Vec Ideal S4x32768x256 .i32) (w : Vec Ideal S32768x4 .f32)
    (v : Vec Ideal S16x1x1024 .f32) (f : Vec Ideal S1x1024 .f32) (tw : Vec Ideal S4x32768 .f32) (g : Vec Ideal S16x6144 .f32) (fg : Vec Ideal S1024 .f32)
    (hw : ∀ (n : Fin 32768) (k : Fin 4), w (ix2 n k) = tw (ix2 k n))
    (hg : ∀ (b : Fin 16) (d : Fin 1024), v (ix3 b 0 d) = g (ix2 b ⟨5120 + d.val, by omega⟩))
    (hf : ∀ d : Fin 1024, f (ix2 0 d) = fg (ix1 d)) (b : Fin 16) (n : Fin 32768) (d : Fin 1024) :
    staged x ya yb w v f b n d = token x ya yb tw g fg b n d := by
  unfold staged token
  simp only [hw, hg, hf]

variable (m : (ℓ : Loc nD τ sig) → Buf (Elt Ideal) ℓ) (ρ : Dev nD → PrngReg)

/-! ## The host's lines -/

/-- The first group's weights reach its call transposed, -/
theorem weights0 (c : Dev nD) (n : Fin 32768) (k : Fin 4) : V1 m ρ c main_v2 (ix2 n k) = m ((c : Thread nD τ).loc main_arg3) (ix2 k n) := by
  show StableHlo.after hostOps0 (W0 m ρ c) (Proc.devRef .tc main_v2) (ix2 n k) = _
  entry_read
  pointwise
/-- the gate cut out of the six vectors, -/
theorem gate0 (c : Dev nD) (b : Fin 16) (d : Fin 1024) : V1 m ρ c main_v1 (ix3 b 0 d) = m ((c : Thread nD τ).loc main_arg8) (ix2 b ⟨5120 + d.val, by omega⟩) := by
  show StableHlo.after hostOps0 (W0 m ρ c) (Proc.devRef .tc main_v1) (ix3 b 0 d) = _
  entry_read
  pointwise
/-- and the norm's weights as one row. -/
theorem norm0 (c : Dev nD) (d : Fin 1024) : V1 m ρ c main_v3 (ix2 0 d) = m ((c : Thread nD τ).loc main_arg9) (ix1 d) := by
  show StableHlo.after hostOps0 (W0 m ρ c) (Proc.devRef .tc main_v3) (ix2 0 d) = _
  entry_read
  pointwise
/-- Likewise before the second call, from what the first leaves: the weights, -/
theorem weights1 (c : Dev nD) (n : Fin 32768) (k : Fin 4) : V3 m ρ c main_v5 (ix2 n k) = m ((c : Thread nD τ).loc main_arg7) (ix2 k n) := by
  rw [← W2_args m ρ c main_arg7 (by decide)]
  show StableHlo.after hostOps1 (W2 m ρ c) (Proc.devRef .tc main_v5) (ix2 n k) = _
  entry_read
  pointwise
/-- the gate, as the first call found it, -/
theorem gate1 (c : Dev nD) (b : Fin 16) (d : Fin 1024) : V3 m ρ c main_v1 (ix3 b 0 d) = m ((c : Thread nD τ).loc main_arg8) (ix2 b ⟨5120 + d.val, by omega⟩) := by
  refine (congrFun ((W3_of m ρ c main_v1 (by decide)).trans (W2_of m ρ c main_v1 (by decide))) _).trans (gate0 m ρ c b d)
/-- the norm's weights, -/
theorem norm1 (c : Dev nD) (d : Fin 1024) : V3 m ρ c main_v6 (ix2 0 d) = m ((c : Thread nD τ).loc main_arg9) (ix1 d) := by
  rw [← W2_args m ρ c main_arg9 (by decide)]
  show StableHlo.after hostOps1 (W2 m ρ c) (Proc.devRef .tc main_v6) (ix2 0 d) = _
  entry_read
  pointwise
/-- and the array it writes into is the one the first call leaves. -/
theorem into1 (c : Dev nD) : V3 m ρ c main_v7 = (dat0 (V1 m ρ) c).arrAt 6 cfg0.N := by
  refine Eq.trans ?_ (W2_arr m ρ c 6)
  show StableHlo.after hostOps1 (W2 m ρ c) (Proc.devRef .tc main_v7) = _
  entry_read
  rfl

/-! ## The result -/

/-- The result is `whole` of the arguments. -/
theorem kernel_array (c : Dev nD) : (dat1 (V3 m ρ) c).arrAt 6 cfg1.N
    = whole (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) := by
  funext z
  have hz : (z 0).val < 65536 := (z 0).isLt
  unfold whole
  split
  · rename_i h
    rw [kept1 (V3 m ρ) c z h, into1, rows0 (V1 m ρ) c ⟨(z 0).val, h⟩ (z 1) z rfl rfl]
    rw [show V1 m ρ c main_arg0 = _ from W1_args m ρ c main_arg0 (by decide), show V1 m ρ c main_arg1 = _ from W1_args m ρ c main_arg1 (by decide),
      show V1 m ρ c main_arg2 = _ from W1_args m ρ c main_arg2 (by decide)]
    exact staged_eq _ _ _ _ _ _ _ _ _ (weights0 m ρ c) (gate0 m ρ c) (norm0 m ρ c) _ _ _
  · rename_i h
    rw [rows1 (V3 m ρ) c ⟨(z 0).val - 32768, by omega⟩ (z 1) z (by show (z 0).val = 32768 + ((z 0).val - 32768); omega) rfl]
    rw [show V3 m ρ c main_arg4 = _ from W3_args m ρ c main_arg4 (by decide), show V3 m ρ c main_arg5 = _ from W3_args m ρ c main_arg5 (by decide),
      show V3 m ρ c main_arg6 = _ from W3_args m ρ c main_arg6 (by decide)]
    exact staged_eq _ _ _ _ _ _ _ _ _ (weights1 m ρ c) (gate1 m ρ c) (norm1 m ρ c) _ _ _

set_option backward.isDefEq.respectTransparency.types false in
/-- The run ends with that array and its arguments unchanged. -/
theorem run : θ_run defs (onTc (τ := τ) (main (F := Ideal))) ⟨m, fun _ => 0, ρ⟩ (fun r => ∀ c : Dev nD,
      r.2.mem ((c.tc : Thread nD τ).loc main_v7) = (dat1 (V3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v7 (by decide))).trans (W4_arr m ρ c 6),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.Final

end
-- ==== Proof.Final.Reference.lean ====
/- The reference's result array, likewise. -/
module

public import proofs.«01_k».proof.Proof.Final.Run
public import proofs.«01_k».proof.Proof.Gen.Reference2Ideal.Value
public import Idealize.ShloMosaic.Lib.Claim

@[expose] public section

set_option maxRecDepth 16384

noncomputable section

namespace Cert.Final.Ref

open Idealize.ShloMosaic Idealize.ShloMosaic.TcCoe Idealize.SL.Sem
open Idealize.ShloMosaic.Pipeline (Dat)
open Cert.Reference2Ideal Cert.Reference2Ideal.Gen

/-- A load of one expert's plane, at an index. -/
theorem ld_word (X : Vec Ideal S4x32768x256 .i32) (k : Fin 4) (n : Fin 32768) (e : Fin 256)
    (inb : ∀ a : Fin 3, (![k.val, 0, 0] : Fin 3 → Nat) a + S1x32768x256.size a ≤ S4x32768x256.size a) :
    View.ld (Val := Elt Ideal) (e' := .i32) X (Rect.unit (s := S4x32768x256) ![k.val, 0, 0] S1x32768x256.size inb) (ix3 0 n e) = X (ix3 k n e) := by
  refine congrArg X (funext fun a => Fin.ext ?_)
  fin_cases a
  · show k.val + 1 * 0 = k.val; omega
  · show 0 + 1 * n.val = n.val; omega
  · show 0 + 1 * e.val = e.val; omega

/-- Loads of an expert's four planes, at a row. -/
theorem words (X : Vec Ideal S4x32768x256 .i32) (n : Fin 32768) :
    (fun (k : Fin 4) (e : Fin 256) => (![View.ld X r0_1, View.ld X r0_2, View.ld X r0_3, View.ld X r0_4] k : Vec Ideal S1x32768x256 .i32) (ix3 0 n e))
      = fun k e => X (ix3 k n e) := by
  funext k e
  fin_cases k
  · exact ld_word X 0 n e _
  · exact ld_word X 1 n e _
  · exact ld_word X 2 n e _
  · exact ld_word X 3 n e _

/-- What the reference's region stores, as an array: `whole` of its arguments, when the arrays the region reads are. -/
theorem stored (a0 : Vec Ideal S32768x1024 .f32) (a1 a2 : Vec Ideal S4x32768x256 .i32) (v3 : Vec Ideal S32768x4 .f32)
    (a4 : Vec Ideal S32768x1024 .f32) (a5 a6 : Vec Ideal S4x32768x256 .i32) (v7 : Vec Ideal S32768x4 .f32)
    (v8 : Vec Ideal S16x1x1024 .f32) (v9 : Vec Ideal S1x1024 .f32)
    (a3 a7 : Vec Ideal S4x32768 .f32) (a8 : Vec Ideal S16x6144 .f32) (a9 : Vec Ideal S1024 .f32)
    (h3 : ∀ (n : Fin 32768) (k : Fin 4), v3 (ix2 n k) = a3 (ix2 k n))
    (h7 : ∀ (n : Fin 32768) (k : Fin 4), v7 (ix2 n k) = a7 (ix2 k n))
    (h8 : ∀ (b : Fin 16) (d : Fin 1024), v8 (ix3 b 0 d) = a8 (ix2 b ⟨5120 + d.val, by omega⟩))
    (h9 : ∀ d : Fin 1024, v9 (ix2 0 d) = a9 (ix1 d)) :
    out0_10 (F := Ideal) a0 a1 a2 v3 a4 a5 a6 v7 v8 v9 = Cert.Final.whole a0 a1 a2 a3 a4 a5 a6 a7 a8 a9 := by
  have e0 : View.ld (Val := Elt Ideal) (e' := .f32) a0 r0_5 = a0 := View.ld_unit_zero (S := S32768x1024) Cert.Final.zero2 _ a0
  have e3 : View.ld (Val := Elt Ideal) (e' := .f32) v3 r0_0 = v3 := View.ld_unit_zero (S := S32768x4) Cert.Final.zero2 _ v3
  have e4 : View.ld (Val := Elt Ideal) (e' := .f32) a4 r0_5 = a4 := View.ld_unit_zero (S := S32768x1024) Cert.Final.zero2 _ a4
  have e7 : View.ld (Val := Elt Ideal) (e' := .f32) v7 r0_0 = v7 := View.ld_unit_zero (S := S32768x4) Cert.Final.zero2 _ v7
  have e9 : View.ld (Val := Elt Ideal) (e' := .f32) v9 r0_7 = v9 := View.ld_unit_zero (S := S1x1024) Cert.Final.zero2 _ v9
  unfold out0_10 k0_pay21 k0_pay20 k0_pay19 k0_pay18 k0_pay17
  rw [e0, e3, e4, e7, e9, Cert.Final.reference_second]
  funext z
  have h0 : (z 0).val < 65536 := (z 0).isLt
  have h1 : (z 1).val < 1024 := (z 1).isLt
  unfold Cert.Final.whole
  split
  · rename_i h
    have hz : r0_8.emb (ix2 (⟨(z 0).val, h⟩ : Fin 32768) (z 1)) = z := by
      refine funext fun a => Fin.ext ?_
      fin_cases a
      · show 0 + 1 * (z 0).val = (z 0).val; omega
      · show 0 + 1 * (z 1).val = (z 1).val; omega
    refine (View.canon_cons_of_not_mem _ _ fun hm => ?_).trans ?_
    · obtain ⟨x, hx⟩ := r0_10.exists_idx_of_mem hm
      have e : 32768 + 1 * (x (0 : Fin 2)).val = (z 0).val := congrArg Fin.val (congrFun hx (0 : Fin 2))
      omega
    conv_lhs => rw [← hz]
    refine (View.canon_cons_emb _ _ _ _).trans ((Cert.Final.reference_row _ _ _ _ _ _ _ _ _ _ _ _ _ _).trans ?_)
    have hg : ∀ (b : Fin 8) (b' : Fin 16) (hb : b'.val = b.val), (fun d : Fin 1024 => View.ld (Val := Elt Ideal) (e' := .f32) v8 r0_6 (ix3 b 0 d))
        = fun d : Fin 1024 => a8 (ix2 b' ⟨5120 + d.val, by omega⟩) := fun b b' hb => by
      funext d
      rw [← h8 b' d]
      refine congrArg v8 (funext fun a => Fin.ext ?_)
      fin_cases a
      · show 0 + 1 * b.val = b'.val; omega
      · show 0 + 1 * 0 = 0; omega
      · show 0 + 1 * d.val = d.val; omega
    unfold Cert.Final.token
    simp only [← h3, ← h9]
    rw [← words a1, ← words a2, ← hg ⟨(z 0).val / 4096, by omega⟩ ⟨(z 0).val / 4096, by omega⟩ rfl]
  · rename_i h
    have hz : r0_10.emb (ix2 (⟨(z 0).val - 32768, by omega⟩ : Fin 32768) (z 1)) = z := by
      refine funext fun a => Fin.ext ?_
      fin_cases a
      · show 32768 + 1 * ((z 0).val - 32768) = (z 0).val; omega
      · show 0 + 1 * (z 1).val = (z 1).val; omega
    conv_lhs => rw [← hz]
    refine (View.canon_cons_emb _ _ _ _).trans ((Cert.Final.reference_row _ _ _ _ _ _ _ _ _ _ _ _ _ _).trans ?_)
    have hg : ∀ (b : Fin 8) (b' : Fin 16) (hb : b'.val = 8 + b.val), (fun d : Fin 1024 => View.ld (Val := Elt Ideal) (e' := .f32) v8 r0_9 (ix3 b 0 d))
        = fun d : Fin 1024 => a8 (ix2 b' ⟨5120 + d.val, by omega⟩) := fun b b' hb => by
      funext d
      rw [← h8 b' d]
      refine congrArg v8 (funext fun a => Fin.ext ?_)
      fin_cases a
      · show 8 + 1 * b.val = b'.val; omega
      · show 0 + 1 * 0 = 0; omega
      · show 0 + 1 * d.val = d.val; omega
    unfold Cert.Final.token
    simp only [← h7, ← h9]
    rw [← words a5, ← words a6, ← hg ⟨((z 0).val - 32768) / 4096, by omega⟩ ⟨8 + ((z 0).val - 32768) / 4096, by omega⟩ rfl]

/-! ## The run -/

variable (m : (ℓ : Loc nD τ sig) → Buf (Elt Ideal) ℓ) (ρ : Dev nD → PrngReg)

/-- The region's one point reads each array whole. -/
theorem blk0 (c : Dev nD) (t : Fin cfg0.N) : iblk m c 0 t = V m c main_arg0 := funext fun y => congrArg (V m c main_arg0) (funext fun a => Fin.ext (by
  fin_cases a
  · show 0 * 32768 + 1 * (y 0).val = (y 0).val; omega
  · show 0 * 1024 + 1 * (y 1).val = (y 1).val; omega))
theorem blk1 (c : Dev nD) (t : Fin cfg0.N) : iblk m c 1 t = V m c main_arg1 := funext fun y => congrArg (V m c main_arg1) (funext fun a => Fin.ext (by
  fin_cases a
  · show 0 * 4 + 1 * (y 0).val = (y 0).val; omega
  · show 0 * 32768 + 1 * (y 1).val = (y 1).val; omega
  · show 0 * 256 + 1 * (y 2).val = (y 2).val; omega))
theorem blk2 (c : Dev nD) (t : Fin cfg0.N) : iblk m c 2 t = V m c main_arg2 := funext fun y => congrArg (V m c main_arg2) (funext fun a => Fin.ext (by
  fin_cases a
  · show 0 * 4 + 1 * (y 0).val = (y 0).val; omega
  · show 0 * 32768 + 1 * (y 1).val = (y 1).val; omega
  · show 0 * 256 + 1 * (y 2).val = (y 2).val; omega))
theorem blk3 (c : Dev nD) (t : Fin cfg0.N) : iblk m c 3 t = V m c main_v1 := funext fun y => congrArg (V m c main_v1) (funext fun a => Fin.ext (by
  fin_cases a
  · show 0 * 32768 + 1 * (y 0).val = (y 0).val; omega
  · show 0 * 4 + 1 * (y 1).val = (y 1).val; omega))
theorem blk4 (c : Dev nD) (t : Fin cfg0.N) : iblk m c 4 t = V m c main_arg4 := funext fun y => congrArg (V m c main_arg4) (funext fun a => Fin.ext (by
  fin_cases a
  · show 0 * 32768 + 1 * (y 0).val = (y 0).val; omega
  · show 0 * 1024 + 1 * (y 1).val = (y 1).val; omega))
theorem blk5 (c : Dev nD) (t : Fin cfg0.N) : iblk m c 5 t = V m c main_arg5 := funext fun y => congrArg (V m c main_arg5) (funext fun a => Fin.ext (by
  fin_cases a
  · show 0 * 4 + 1 * (y 0).val = (y 0).val; omega
  · show 0 * 32768 + 1 * (y 1).val = (y 1).val; omega
  · show 0 * 256 + 1 * (y 2).val = (y 2).val; omega))
theorem blk6 (c : Dev nD) (t : Fin cfg0.N) : iblk m c 6 t = V m c main_arg6 := funext fun y => congrArg (V m c main_arg6) (funext fun a => Fin.ext (by
  fin_cases a
  · show 0 * 4 + 1 * (y 0).val = (y 0).val; omega
  · show 0 * 32768 + 1 * (y 1).val = (y 1).val; omega
  · show 0 * 256 + 1 * (y 2).val = (y 2).val; omega))
theorem blk7 (c : Dev nD) (t : Fin cfg0.N) : iblk m c 7 t = V m c main_v2 := funext fun y => congrArg (V m c main_v2) (funext fun a => Fin.ext (by
  fin_cases a
  · show 0 * 32768 + 1 * (y 0).val = (y 0).val; omega
  · show 0 * 4 + 1 * (y 1).val = (y 1).val; omega))
theorem blk8 (c : Dev nD) (t : Fin cfg0.N) : iblk m c 8 t = V m c main_v3 := funext fun y => congrArg (V m c main_v3) (funext fun a => Fin.ext (by
  fin_cases a
  · show 0 * 16 + 1 * (y 0).val = (y 0).val; omega
  · show 0 * 1 + 1 * (y 1).val = (y 1).val; omega
  · show 0 * 1024 + 1 * (y 2).val = (y 2).val; omega))
theorem blk9 (c : Dev nD) (t : Fin cfg0.N) : iblk m c 9 t = V m c main_v4 := funext fun y => congrArg (V m c main_v4) (funext fun a => Fin.ext (by
  fin_cases a
  · show 0 * 1 + 1 * (y 0).val = (y 0).val; omega
  · show 0 * 1024 + 1 * (y 1).val = (y 1).val; omega))

/-- The host's lines before the region: each group's weights transposed, -/
theorem weights0 (c : Dev nD) (n : Fin 32768) (k : Fin 4) : V m c main_v1 (ix2 n k) = m ((c : Thread nD τ).loc main_arg3) (ix2 k n) := by
  entry_read
  pointwise
/-- the second's, -/
theorem weights1 (c : Dev nD) (n : Fin 32768) (k : Fin 4) : V m c main_v2 (ix2 n k) = m ((c : Thread nD τ).loc main_arg7) (ix2 k n) := by
  entry_read
  pointwise
/-- the gate, -/
theorem gate (c : Dev nD) (b : Fin 16) (d : Fin 1024) : V m c main_v3 (ix3 b 0 d) = m ((c : Thread nD τ).loc main_arg8) (ix2 b ⟨5120 + d.val, by omega⟩) := by
  entry_read
  pointwise
/-- the norm's weights. -/
theorem norm (c : Dev nD) (d : Fin 1024) : V m c main_v4 (ix2 0 d) = m ((c : Thread nD τ).loc main_arg9) (ix1 d) := by
  entry_read
  pointwise

/-- The reference's array is `whole` of its arguments. -/
theorem array (c : Dev nD) : (dats m 0 c).arrAt 10 cfg0.N
    = Cert.Final.whole (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) := by
  funext z
  let t : Fin cfg0.N := ⟨0, by decide⟩
  have e := (dats m 0 c).arrAt_emb_eq_flushed 10 Value.disjoint10 t (flush0_10 t) z
  have hz : ((cfg0.win 10).blk t).view.emb z = z := by
    refine funext fun a => Fin.ext ?_
    fin_cases a
    · show 0 * 65536 + 1 * (z 0).val = (z 0).val; omega
    · show 0 * 1024 + 1 * (z 1).val = (z 1).val; omega
  rw [hz, Value.flushed10] at e
  refine (e.trans (cast_eq _ _)).trans ?_
  rw [blk0, blk1, blk2, blk3, blk4, blk5, blk6, blk7, blk8, blk9, V_main_arg0, V_main_arg1, V_main_arg2, V_main_arg4, V_main_arg5, V_main_arg6]
  exact congrFun (stored _ _ _ _ _ _ _ _ _ _ _ _ _ _ (weights0 m c) (weights1 m c) (gate m c) (norm m c)) z

end Cert.Final.Ref

end
-- ==== Proof.Ada.Silu.lean ====
/- The two spellings of `silu`: by the hyperbolic tangent of half the argument, and by the exponential. -/
module

public import Idealize.ShloMosaic.Lib.Pointwise
public import Idealize.ShloMosaic.Lib.IdealHost
import Mathlib.Tactic.NormNum
import Mathlib.Tactic.FieldSimp
import Mathlib.Tactic.Linarith
import Mathlib.Tactic.LinearCombination
import Mathlib.Tactic.Positivity

@[expose] public section

noncomputable section

namespace Cert.Ada

open Idealize.ShloMosaic

/-- One half. -/
theorem half_eq : Ideal.ofBits .f32 0x3F000000#32 = ((1 / 2 : ℝ) : EReal) := by
  simp [Ideal.ofBits, Ideal.ieee, -EReal.coe_mul]; norm_num

/-- The argument times its logistic. -/
def silu (x : EReal) : EReal := x * Ideal.div 1 (1 + Ideal.exp (-x))

/-- On the reals, -/
theorem real_gate (x : ℝ) : 1 / 2 * Real.tanh (1 / 2 * x) + 1 / 2 = 1 * (1 + Real.exp (-x))⁻¹ := by
  have ha : 0 < Real.exp (1 / 2 * x) := Real.exp_pos _
  have hb : 0 < Real.exp (-(1 / 2 * x)) := Real.exp_pos _
  have hab : Real.exp (1 / 2 * x) * Real.exp (-(1 / 2 * x)) = 1 := by rw [← Real.exp_add]; simp
  have hx : Real.exp (-x) = Real.exp (-(1 / 2 * x)) * Real.exp (-(1 / 2 * x)) := by
    rw [← Real.exp_add]; congr 1; ring
  rw [Real.tanh_eq_sinh_div_cosh, Real.sinh_eq, Real.cosh_eq, hx]
  generalize Real.exp (1 / 2 * x) = a at *
  generalize Real.exp (-(1 / 2 * x)) = b at *
  have h1 : a + b ≠ 0 := by positivity
  have h2 : 1 + b * b ≠ 0 := by positivity
  field_simp
  linear_combination (2 * b) * hab

/-- and at the infinities too. -/
theorem silu_eq (x : EReal) :
    x * (Ideal.ofBits .f32 0x3F000000#32 * Ideal.tanh (Ideal.ofBits .f32 0x3F000000#32 * x) + Ideal.ofBits .f32 0x3F000000#32) = silu x := by
  unfold silu
  rw [half_eq]
  induction x with
  | bot =>
    have e : ((1 / 2 : ℝ) : EReal) * ⊥ = ⊥ := EReal.coe_mul_bot_of_pos (by norm_num)
    rw [e]
    show ⊥ * (((1 / 2 : ℝ) : EReal) * (-1) + ((1 / 2 : ℝ) : EReal)) = ⊥ * Ideal.div 1 (1 + Ideal.exp ⊤)
    have e1 : ((1 / 2 : ℝ) : EReal) * (-1) + ((1 / 2 : ℝ) : EReal) = 0 := by
      rw [show (-1 : EReal) = ((-1 : ℝ) : EReal) by rw [EReal.coe_neg]; rfl, ← EReal.coe_mul, ← EReal.coe_add]; norm_num
    have e2 : Ideal.div 1 (1 + Ideal.exp ⊤) = 0 := by
      have e3 : (1 : EReal) + Ideal.exp ⊤ = ⊤ := EReal.add_top_of_ne_bot (by decide)
      rw [e3]; simp [Ideal.div]
    rw [e1, e2]
  | top =>
    have e : ((1 / 2 : ℝ) : EReal) * ⊤ = ⊤ := EReal.coe_mul_top_of_pos (by norm_num)
    rw [e]
    show ⊤ * (((1 / 2 : ℝ) : EReal) * 1 + ((1 / 2 : ℝ) : EReal)) = ⊤ * Ideal.div 1 (1 + Ideal.exp ⊥)
    have e1 : ((1 / 2 : ℝ) : EReal) * 1 + ((1 / 2 : ℝ) : EReal) = 1 := by
      rw [mul_one, ← EReal.coe_add]; norm_num
    have e2 : Ideal.div 1 (1 + Ideal.exp ⊥) = 1 := by
      have e3 : (1 : EReal) + Ideal.exp ⊥ = 1 := add_zero _
      rw [e3]; simp [Ideal.div]
    rw [e1, e2]
  | coe r =>
    have e0 : ((1 / 2 : ℝ) : EReal) * (r : EReal) = ((1 / 2 * r : ℝ) : EReal) := (EReal.coe_mul _ _).symm
    rw [e0]
    show (r : EReal) * (((1 / 2 : ℝ) : EReal) * ((Real.tanh (1 / 2 * r) : ℝ) : EReal) + ((1 / 2 : ℝ) : EReal))
      = (r : EReal) * Ideal.div 1 (1 + ((Real.exp (-r) : ℝ) : EReal))
    have hp : (0 : ℝ) < 1 + Real.exp (-r) := by have := Real.exp_pos (-r); linarith
    have e1 : (1 : EReal) + ((Real.exp (-r) : ℝ) : EReal) = ((1 + Real.exp (-r) : ℝ) : EReal) := by rw [EReal.coe_add]; rfl
    have e2 : Ideal.div 1 ((1 + Real.exp (-r) : ℝ) : EReal) = ((1 * (1 + Real.exp (-r))⁻¹ : ℝ) : EReal) := by
      unfold Ideal.div
      rw [if_neg (by exact_mod_cast hp.ne'), EReal.coe_mul, EReal.coe_inv]; rfl
    rw [e1, e2, ← EReal.coe_mul, ← EReal.coe_add, real_gate]

end Cert.Ada

end
-- ==== Proof.Ada.Kernel.lean ====
/- The conditioning call's result array, as a function of its arguments. -/
module

public import proofs.«01_k».proof.Proof.Gen.Kernel3Ideal.Value
public import proofs.«01_k».proof.Proof.Ada.Silu
public import Idealize.ShloMosaic.Lib.Claim

@[expose] public section

set_option maxRecDepth 16384

noncomputable section

namespace Cert.Ada

open Idealize.ShloMosaic Idealize.ShloMosaic.TcCoe Idealize.SL.Sem
open Idealize.ShloMosaic.Pipeline (Dat)
open Cert.Kernel3Ideal Cert.Kernel3Ideal.Gen

/-- The product of `silu` of the conditioning with the weights, and the bias added. -/
def value (x : Vec Ideal S16x1024 .f32) (w : Vec Ideal S1024x6144 .f32) (b : Vec Ideal S6144 .f32) : Vec Ideal S16x6144 .f32 := fun z =>
  (∑ k : Fin 1024, silu (x (ix2 (z 0) k)) * w (ix2 k (z 1))) + b (ix1 (z 1))

/-- What a grid point stores, at an entry. -/
theorem stored (x : Vec Ideal S16x1024 .f32) (w : Vec Ideal S1024x1536 .f32) (b : Vec Ideal S1x1536 .f32) (r : Fin 16) (d : Fin 1536) :
    k0_pay1 x w b (ix2 r d) = (∑ k : Fin 1024, silu (x (ix2 r k)) * w (ix2 k d)) + b (ix2 0 d) := by
  pointwise [k0_pay1]
  simp only [silu_eq]

/-! ## Where the blocks lie -/

theorem points : grid0.N = 4 := by decide
theorem at1 : ∀ t : Fin grid0.N, cc0_transform_1 (grid0.coords t) 1 = t.val := by decide +kernel
theorem at2 : ∀ t : Fin grid0.N, cc0_transform_2 (grid0.coords t) 1 = t.val := by decide +kernel
theorem at3 : ∀ t : Fin grid0.N, cc0_transform_3 (grid0.coords t) 1 = t.val := by decide +kernel
theorem flush3 : ∀ t : Fin cfg0.N, (cfg0.win 3).flush t = true := by decide +kernel

/-- The whole-block slices. -/
theorem zero2 : (![0, 0] : Fin 2 → Nat) = fun _ => 0 := by funext a; fin_cases a <;> rfl
theorem ld0 (X : Vec Ideal S16x1024 .f32) : View.ld (Val := Elt Ideal) (e' := .f32) X r0_0 = X :=
  View.ld_unit_zero (S := S16x1024) zero2 inb_S16x1024_S16x1024_0_0 X
theorem ld1 (X : Vec Ideal S1024x1536 .f32) : View.ld (Val := Elt Ideal) (e' := .f32) X r0_1 = X :=
  View.ld_unit_zero (S := S1024x1536) zero2 inb_S1024x1536_S1024x1536_0_0 X
theorem ld2 (X : Vec Ideal S1x1536 .f32) : View.ld (Val := Elt Ideal) (e' := .f32) X r0_2 = X :=
  View.ld_unit_zero (S := S1x1536) zero2 inb_S1x1536_S1x1536_0_0 X

/-- The block a grid point leaves is what it stores. -/
theorem out_eq (x : Vec Ideal S16x1024 .f32) (w : Vec Ideal S1024x1536 .f32) (b : Vec Ideal S1x1536 .f32) : out0_3 x w b = k0_pay1 x w b := by
  unfold out0_3
  rw [ld0, ld1, ld2]
  exact View.canon_cons_unit_zero (S := S16x1536) zero2 inb_S16x1536_S16x1536_0_0 _ []

variable (m : (ℓ : Loc nD τ sig) → Buf (Elt Ideal) ℓ) (ρ : Dev nD → PrngReg)

/-- The blocks' entries are the inputs': the conditioning, -/
theorem blk0 (c : Dev nD) (t : Fin cfg0.N) (r : Fin 16) (k : Fin 1024) :
    iblk m c 0 t (ix2 r k) = V m c main_arg0 (ix2 r k) := by
  refine congrArg (V m c main_arg0) (funext fun a => Fin.ext ?_)
  fin_cases a
  · show 0 * 16 + 1 * r.val = r.val; omega
  · show 0 * 1024 + 1 * k.val = k.val; omega
/-- the weights, -/
theorem blk1 (c : Dev nD) (t : Fin cfg0.N) (j : Fin 6144) (k : Fin 1024) (d : Fin 1536) (h : j.val = 1536 * t.val + d.val) :
    iblk m c 1 t (ix2 k d) = V m c main_arg1 (ix2 k j) := by
  refine congrArg (V m c main_arg1) (funext fun a => Fin.ext ?_)
  fin_cases a
  · show 0 * 1024 + 1 * k.val = k.val; omega
  · show cc0_transform_1 (grid0.coords t) 1 * 1536 + 1 * d.val = j.val
    rw [at1]; omega
/-- and the bias, which reaches the call as one row. -/
theorem blk2 (c : Dev nD) (t : Fin cfg0.N) (j : Fin 6144) (d : Fin 1536) (h : j.val = 1536 * t.val + d.val) :
    iblk m c 2 t (ix2 0 d) = V m c main_v0 (ix2 0 j) := by
  refine congrArg (V m c main_v0) (funext fun a => Fin.ext ?_)
  fin_cases a
  · show 0 * 1 + 1 * 0 = 0; omega
  · show cc0_transform_2 (grid0.coords t) 1 * 1536 + 1 * d.val = j.val
    rw [at2]; omega
theorem bias (c : Dev nD) (j : Fin 6144) : V m c main_v0 (ix2 0 j) = m ((c : Thread nD τ).loc main_arg2) (ix1 j) := by
  entry_read
  pointwise

/-! ## The result -/

/-- An entry of it. -/
theorem entry (c : Dev nD) (r : Fin 16) (j : Fin 6144) (z : S16x6144.Idx) (h0 : (z 0).val = r.val) (h1 : (z 1).val = j.val) :
    (dats m 0 c).arrAt 3 cfg0.N z
      = (∑ k : Fin 1024, silu (V m c main_arg0 (ix2 r k)) * V m c main_arg1 (ix2 k j)) + m ((c : Thread nD τ).loc main_arg2) (ix1 j) := by
  have hj := j.isLt
  let t : Fin cfg0.N := ⟨j.val / 1536, by show j.val / 1536 < grid0.N; rw [points]; omega⟩
  let d : Fin 1536 := ⟨j.val % 1536, by omega⟩
  have hd : j.val = 1536 * t.val + d.val := by show j.val = 1536 * (j.val / 1536) + j.val % 1536; omega
  have e := (dats m 0 c).arrAt_emb_eq_flushed 3 Value.disjoint3 t (flush3 t) (ix2 r d)
  have hz : ((cfg0.win 3).blk t).view.emb (ix2 r d) = z := by
    refine funext fun a => Fin.ext ?_
    fin_cases a
    · show 0 * 16 + 1 * r.val = (z 0).val; omega
    · show cc0_transform_3 (grid0.coords t) 1 * 1536 + 1 * d.val = (z 1).val
      rw [at3]; omega
  have e2 : (dats m 0 c).flushed 3 t (ix2 r d)
      = (∑ k : Fin 1024, silu (V m c main_arg0 (ix2 r k)) * V m c main_arg1 (ix2 k j)) + m ((c : Thread nD τ).loc main_arg2) (ix1 j) := by
    rw [Value.flushed3, out_eq]
    refine (stored _ _ _ r d).trans ?_
    rw [blk2 m c t j d hd, bias]
    simp only [blk0 m c t, blk1 m c t j _ d hd]
  rw [hz, e2] at e
  exact e.trans (cast_eq _ _)

/-- The result is `value` of the arguments. -/
theorem kernel_array (c : Dev nD) : (dats m 0 c).arrAt 3 cfg0.N
    = value (m ((c : Thread nD τ).loc main_arg0)) (m ((c : Thread nD τ).loc main_arg1)) (m ((c : Thread nD τ).loc main_arg2)) := by
  rw [← V_main_arg0 m c, ← V_main_arg1 m c]
  funext z
  exact entry m c (z 0) (z 1) z rfl rfl

end Cert.Ada

end
-- ==== Proof.Ada.Reference.lean ====
/- The conditioning's reference, likewise. -/
module

public import proofs.«01_k».proof.Proof.Ada.Kernel
public import proofs.«01_k».proof.Proof.Gen.Reference3Ideal
public import Idealize.ShloMosaic.Lib.Claim
public import Idealize.ShloMosaic.Lib.Quiescent

@[expose] public section

set_option maxRecDepth 16384

noncomputable section

namespace Cert.Ada.Ref

open Idealize.ShloMosaic Idealize.ShloMosaic.TcCoe Idealize.SL.Sem
open Cert.Reference3Ideal Cert.Reference3Ideal.Gen

/-- The reference's lines, as one term. -/
def lines (x : FVec Ideal S16x1024 .f32) (w : FVec Ideal S1024x6144 .f32) (b : FVec Ideal S6144 .f32) : Vec Ideal S16x6144 .f32 :=
  addf (F := Ideal) (Host.dotGeneral dot_S16x1024_S1024x6144_S16x6144_1_0_0_1_n_n none
      (mulf x (Host.divf (broadcastInDim S16x1024 ![] bcast_S_S16x1024 (constant S_ .f32 0x3F800000#32))
        (addf (broadcastInDim S16x1024 ![] bcast_S_S16x1024 (constant S_ .f32 0x3F800000#32)) (Host.exp (Host.negf x))))) w)
    (broadcastInDim S16x6144 ![0, 1] bcast_S1x6144_S16x6144_0_1 (broadcastInDim S1x6144 ![1] bcast_S6144_S1x6144_1 b))

/-- They are `value` of the arguments. -/
theorem lines_eq (x : Vec Ideal S16x1024 .f32) (w : Vec Ideal S1024x6144 .f32) (b : Vec Ideal S6144 .f32) : lines x w b = Cert.Ada.value x w b := by
  funext z
  obtain ⟨r, d, rfl⟩ : ∃ (r : Fin 16) (d : Fin 6144), z = ix2 r d := ⟨z 0, z 1, by funext a; fin_cases a <;> rfl⟩
  pointwise [lines]
  rfl

variable (m : (ℓ : Loc nD τ sig) → Buf (Elt Ideal) ℓ) (ρ : Dev nD → PrngReg)

local instance : Cert.Reference3Ideal.Facts := Cert.Reference3Ideal.Gen.facts

/-- The run: the result is `value` of the arguments, which are as they were. -/
theorem run : θ_run defs (onTc (τ := τ) (main (F := Ideal))) ⟨m, fun _ => 0, ρ⟩ fun r => ∀ c : Dev nD,
      r.2.mem ((c : Thread nD τ).loc main_v4)
        = Cert.Ada.value (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  hlo_run
  exact lines_eq (m ((c : Thread nD τ).loc main_arg0)) (m ((c : Thread nD τ).loc main_arg1)) (m ((c : Thread nD τ).loc main_arg2))

/-- It leaves its arguments, and every counter at zero. -/
theorem frame : θ_run defs (onTc (τ := τ) (main (F := Ideal))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0 :=
  (θ_run defs _ _).mono (fun r h => ⟨fun c => (h c).2, sem_eq_zero_of_no_sems rfl r.2⟩) (run m ρ)

end Cert.Ada.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.Reference
public import proofs.«01_k».proof.Proof.Gen.Reference.Skeleton
public import proofs.«01_k».proof.Proof.Gen.Reference.Loops
public import proofs.«01_k».proof.Proof.Gen.Reference.Launch
public import proofs.«01_k».proof.Proof.Gen.Reference.Points
public import proofs.«01_k».proof.Proof.Gen.Reference.Frame
public import proofs.«01_k».proof.Proof.Gen.Reference.Value
public import proofs.«01_k».proof.Proof.Experts.Value
public import Idealize.ShloMosaic.Adequacy
public import Idealize.ShloMosaic.Init
public import proofs.«01_k».proof.Proof.Gen.Reference2Ideal.Value
public import proofs.«01_k».proof.Proof.Final.Reference
public import proofs.«01_k».proof.Proof.Gen.Kernel3Ideal.Value
public import proofs.«01_k».proof.Proof.Gen.Kernel2Ideal.Frame
public import proofs.«01_k».proof.Proof.Gen.Kernel2.Frame
public import proofs.«01_k».proof.Proof.Gen.Kernel3.Frame
public import proofs.«01_k».proof.Proof.Gen.Reference3Ideal
public import proofs.«01_k».proof.Proof.Ada.Reference

@[expose] public section

noncomputable section

namespace Cert.Proof

open Idealize.ShloMosaic Idealize.SL.Sem

/-- The facts the two programs state. -/
local instance : Cert.Kernel.Facts := Cert.Kernel.Gen.facts
local instance : Cert.Reference.Facts := Cert.Reference.Gen.facts

/-- The call runs and leaves its arguments; -/
theorem quiescent_kernel : Cert.quiescent_Kernel := fun m g _ => Cert.Kernel.Experts.frame m g (Cert.Kernel.Experts.ok_of_lt m (Cert.Tables.kernel_lt m 0))
/-- so does the reference; -/
theorem quiescent_reference : Cert.quiescent_Reference := fun m g _ => Cert.Reference.Gen.frame m g (Cert.Reference.Trip.hyps_of_lt m (Cert.Tables.reference_lt m))
/-- and they end with the same words. -/
theorem bitexact : Cert.bitexact_Kernel_Reference := fun m g m' g' _ ha => by
  have hO := Cert.Kernel.Experts.ok_of_lt m (Cert.Tables.kernel_lt m 0)
  have hs : ∀ c, Cert.Value.Same m m' c := fun c => by
    obtain ⟨e0, e1, e2, e3, e4, e5, e6⟩ := ha c
    exact .of m m' c e0 e1 e2 e3 e4 e5 e6
  have hH := Cert.Reference.Trip.hyps_of_lt m' (Cert.Tables.reference_lt m')
  refine ⟨fun c => Cert.Kernel.Experts.finA m hO c, fun c => Cert.Kernel.Experts.finB m hO c, Cert.Kernel.Experts.run_named m g hO, ?_⟩
  refine (θ_run Cert.Reference.defs _ _).mono (fun r h c => ?_) (Cert.Reference.Value.run_blocks m' g' hH)
  obtain ⟨eA, eB⟩ := Cert.Reference.Trip.final_eq m' hH c _ _ (Cert.Value.agrees m m' hO hH c (hs c))
  exact ⟨(h c).1.trans eA, (h c).2.1.trans eB, (h c).2.2⟩

/-! ## The two groups' final calls -/

local instance : Cert.Kernel2.Facts := Cert.Kernel2.Gen.facts
local instance : Cert.Kernel2Ideal.Facts := Cert.Kernel2Ideal.Gen.facts
local instance : Cert.Reference2Ideal.Facts := Cert.Reference2Ideal.Gen.facts

/-- Over the extended reals they end with their reference's array. -/
theorem final_agrees : Cert.algebraic_Kernel2Ideal_Reference2Ideal := fun m g m' g' _ ha => by
  refine ⟨fun c => (Cert.Kernel2Ideal.Gen.dat1 (Cert.Kernel2Ideal.Gen.V3 m g) c).arrAt 6 Cert.Kernel2Ideal.cfg1.N, Cert.Final.run m g, ?_⟩
  refine (θ_run Cert.Reference2Ideal.defs _ _).mono (fun r h c => ?_) (Cert.Reference2Ideal.Value.run_blocks m' g')
  obtain ⟨e0, e1, e2, e3, e4, e5, e6, e7, e8, e9⟩ := ha c
  refine ⟨(h c).1.trans ((Cert.Final.Ref.array m' c).trans ?_), (h c).2⟩
  rw [e0, e1, e2, e3, e4, e5, e6, e7, e8, e9]
  exact (Cert.Final.kernel_array m g c).symm

/-! ## The conditioning's call -/

local instance : Cert.Kernel3.Facts := Cert.Kernel3.Gen.facts
local instance : Cert.Kernel3Ideal.Facts := Cert.Kernel3Ideal.Gen.facts
local instance : Cert.Reference3Ideal.Facts := Cert.Reference3Ideal.Gen.facts

/-- Its reference runs and leaves its arguments; -/
theorem quiescent_reference3 : Cert.quiescent_Reference3Ideal := fun m g _ => Cert.Ada.Ref.frame m g
/-- and over the extended reals the call ends with that reference's array. -/
theorem ada_agrees : Cert.algebraic_Kernel3Ideal_Reference3Ideal := fun m g m' g' _ ha => by
  refine ⟨fun c => (Cert.Kernel3Ideal.Gen.dats m 0 c).arrAt 3 Cert.Kernel3Ideal.cfg0.N, Cert.Kernel3Ideal.Value.run_blocks m g, ?_⟩
  refine (θ_run Cert.Reference3Ideal.defs _ _).mono (fun r h c => ?_) (Cert.Ada.Ref.run m' g')
  obtain ⟨e0, e1, e2⟩ := ha c
  refine ⟨(h c).1.trans ?_, (h c).2⟩
  rw [e0, e1, e2]
  exact (Cert.Ada.kernel_array m c).symm

theorem claim : Cert.Claim :=
  ⟨Cert.Kernel.Gen.facts, Cert.Reference.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    quiescent_kernel, quiescent_reference, fun m g _ => Cert.Kernel2.Gen.frame m g, fun m g _ => Cert.Kernel2Ideal.Gen.frame m g,
    fun m g _ => Cert.Reference2Ideal.Gen.frame m g, fun m g _ => Cert.Kernel3.Gen.frame m g, fun m g _ => Cert.Kernel3Ideal.Gen.frame m g,
    quiescent_reference3, bitexact, trivial, final_agrees, trivial, ada_agrees⟩

end Cert.Proof

end
